-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "c" .f32 0x3E38AA3B#32 (((1 / 8) * (Real.log 2)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 512]⟩ ⟨2, ![768, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 768]⟩ ⟨2, ![4096, 768]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x768 : Shape := ⟨3, ![2, 256, 768]⟩
abbrev S768x512 : Shape := ⟨2, ![768, 512]⟩
abbrev S512x768 : Shape := ⟨2, ![512, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_

variable [Facts]

def fn {F : FTy → Type} [FloatOps F] (main_arg0 : FVec F S2x256x768 .f32) (main_arg1 : FVec F S768x512 .f32) (main_arg2 : FVec F S768x512 .f32) (main_arg3 : FVec F S768x512 .f32) (main_arg4 : FVec F S512x768 .f32) : IVec S_ 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S768x512 .f32 := Host.absf main_arg2
  let main_cst_2 : FVec F S_ .f32 := constant S_ .f32 0x7F800000#32
  let main_v10 : FVec F S768x512 .f32 := broadcastInDim S768x512 ![] bcast_S_S768x512 main_cst_2
  let main_v11 : IVec S768x512 1 := cmpf .olt main_v9 main_v10
  let main_c_3 : IVec S_ 1 := constantI S_ 1 1#1
  let main_v12 : IVec S_ 1 := (fun x v => Host.reduce IntOp.andi x v reducesTo_S768x512_S_d0_1 h_S_) main_v11 main_c_3
  let main_v13 : IVec S_ 1 := andi main_v8 main_v12
  main_v13
-- ==== Pre_finite_ReferenceIdeal.lean ====
abbrev S2x256x768 : Shape := ⟨3, ![2, 256, 768]⟩
abbrev S768x4096 : Shape := ⟨2, ![768, 4096]⟩
abbrev S4096x768 : Shape := ⟨2, ![4096, 768]⟩
abbrev S_ : Shape := ⟨0, ![]⟩

class Facts : Prop where
  bcast_S_S2x256x768 : S_.BroadcastsInDim S2x256x768 (![] : Fin 0 → Fin S2x256x768.rank)
  reducesTo_S2x256x768_S_d0_1_2 : S2x256x768.ReducesTo [0, 1, 2] S_
  h_S_ : 0 < S_.numel
  bcast_S_S768x4096 : S_.BroadcastsInDim S768x4096 (![] : Fin 0 → Fin S768x4096.rank)
  reducesTo_S768x4096_S_d0_1 : S768x4096.ReducesTo [0, 1] S_

variable [Facts]

def fn {F : FTy → Type} [FloatOps F] (main_arg0 : FVec F S2x256x768 .f32) (main_arg1 : FVec F S768x4096 .f32) (main_arg2 : FVec F S768x4096 .f32) (main_arg3 : FVec F S768x4096 .f32) (main_arg4 : FVec F S4096x768 .f32) : IVec S_ 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_c : IVec S_ 1 := constantI S_ 1 1#1
  let main_v3 : IVec S_ 1 := (fun x v => Host.reduce IntOp.andi x v reducesTo_S2x256x768_S_d0_1_2 h_S_) main_v2 main_c
  let main_v4 : FVec F S768x4096 .f32 := Host.absf main_arg1
  let main_cst_0 : FVec F S_ .f32 := constant S_ .f32 0x7F800000#32
  let main_v5 : FVec F S768x4096 .f32 := broadcastInDim S768x4096 ![] bcast_S_S768x4096 main_cst_0
  let main_v6 : IVec S768x4096 1 := cmpf .olt main_v4 main_v5
  let main_c_1 : IVec S_ 1 := constantI S_ 1 1#1
  let main_v7 : IVec S_ 1 := (fun x v => Host.reduce IntOp.andi x v reducesTo_S768x4096_S_d0_1 h_S_) main_v6 main_c_1
  let main_v8 : IVec S_ 1 := andi main_v3 main_v7
  let main_v9 : FVec F S768x4096 .f32 := Host.absf main_arg2
  let main_cst_2 : FVec F S_ .f32 := constant S_ .f32 0x7F800000#32
  let main_v10 : FVec F S768x4096 .f32 := broadcastInDim S768x4096 ![] bcast_S_S768x4096 main_cst_2
  let main_v11 : IVec S768x4096 1 := cmpf .olt main_v9 main_v10
  let main_c_3 : IVec S_ 1 := constantI S_ 1 1#1
  let main_v12 : IVec S_ 1 := (fun x v => Host.reduce IntOp.andi x v reducesTo_S768x4096_S_d0_1 h_S_) main_v11 main_c_3
  let main_v13 : IVec S_ 1 := andi main_v8 main_v12
  main_v13
-- ==== Kernel.lean ====
abbrev S2x256x768 : Shape := ⟨3, ![2, 256, 768]⟩
abbrev S768x512 : Shape := ⟨2, ![768, 512]⟩
abbrev S512x768 : Shape := ⟨2, ![512, 768]⟩
abbrev S512x512 : Shape := ⟨2, ![512, 512]⟩
abbrev S8x64x768 : Shape := ⟨3, ![8, 64, 768]⟩
abbrev S64x768 : Shape := ⟨2, ![64, 768]⟩
abbrev S8 : Shape := ⟨1, ![8]⟩
abbrev S_ : Shape := ⟨0, ![]⟩
abbrev S64x256 : Shape := ⟨2, ![64, 256]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S512x256 : Shape := ⟨2, ![512, 256]⟩
abbrev S256x768 : Shape := ⟨2, ![256, 768]⟩
abbrev S1 : Shape := ⟨1, ![1]⟩
abbrev S1x64x768 : Shape := ⟨3, ![1, 64, 768]⟩

abbrev nBuf : Space → Nat
  | .hbm => 6
  | .vmem => 11
  | .smem => 0
  | _ => 0

abbrev bufTy : (tb : Table) → Fin (tcTables nBuf tb) → BufTy
  | .hbm, ⟨0, _⟩ => ⟨S2x256x768, .f32⟩
  | .hbm, ⟨1, _⟩ => ⟨S768x512, .f32⟩
  | .hbm, ⟨2, _⟩ => ⟨S768x512, .f32⟩
  | .hbm, ⟨3, _⟩ => ⟨S768x512, .f32⟩
  | .hbm, ⟨4, _⟩ => ⟨S512x768, .f32⟩
  | .hbm, ⟨5, _⟩ => ⟨S2x256x768, .f32⟩
  | .local _ .vmem, ⟨0, _⟩ => ⟨S2x256x768, .f32⟩
  | .local _ .vmem, ⟨1, _⟩ => ⟨S768x512, .f32⟩
  | .local _ .vmem, ⟨2, _⟩ => ⟨S512x768, .f32⟩
  | .local _ .vmem, ⟨3, _⟩ => ⟨S768x512, .f32⟩
  | .local _ .vmem, ⟨4, _⟩ => ⟨S768x512, .f32⟩
  | .local _ .vmem, ⟨5, _⟩ => ⟨S2x256x768, .f32⟩
  | .local _ .vmem, ⟨6, _⟩ => ⟨S512x512, .bf16⟩
  | .local _ .vmem, ⟨7, _⟩ => ⟨S512x768, .bf16⟩
  | .local _ .vmem, ⟨8, _⟩ => ⟨S8x64x768, .bf16⟩
  | .local _ .vmem, ⟨9, _⟩ => ⟨S512x768, .bf16⟩
  | .local _ .vmem, ⟨10, _⟩ => ⟨S64x768, .bf16⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_122 : BitVec 32 := 0#32
  let v261 : BitVec 1 := Scalar.cmpi .ne v2 c0_i32_122
  let v262 : BitVec 32 := Scalar.extui v261
  let c0_i32_124 : BitVec 32 := 0#32
  let v263 : BitVec 1 := Scalar.cmpi .ne v262 c0_i32_124
  v263

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_335 : BitVec 32 := 0#32
  let c0_i32_336 : BitVec 32 := 0#32
  ![v2.toNat, 0, 0]
def k0_dev8 : Nat :=
  let c0_i32_334 : BitVec 32 := 0#32
  let c0_i32_332 : BitVec 32 := 0#32
  let c1_i32_333 : BitVec 32 := 1#32
  let v575 : BitVec 32 := Scalar.muli c0_i32_332 c1_i32_333
  let v576 : BitVec 32 := Scalar.addi c0_i32_334 v575
  v576.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_125 : BitVec 32 := 1#32
  let v264 : BitVec 1 := Scalar.cmpi .ne v2 c1_i32_125
  let v265 : BitVec 32 := Scalar.extui v264
  let c0_i32_127 : BitVec 32 := 0#32
  let v266 : BitVec 1 := Scalar.cmpi .ne v265 c0_i32_127
  v266

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_335 : BitVec 32 := 0#32
  let c0_i32_336 : BitVec 32 := 0#32
  ![v2.toNat, 0, 0]
def k0_dev9 : Nat :=
  let c0_i32_334 : BitVec 32 := 0#32
  let c1_i32_332 : BitVec 32 := 1#32
  let c1_i32_333 : BitVec 32 := 1#32
  let v575 : BitVec 32 := Scalar.muli c1_i32_332 c1_i32_333
  let v576 : BitVec 32 := Scalar.addi c0_i32_334 v575
  v576.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_128 : BitVec 32 := 2#32
  let v267 : BitVec 1 := Scalar.cmpi .ne v2 c2_i32_128
  let v268 : BitVec 32 := Scalar.extui v267
  let c0_i32_130 : BitVec 32 := 0#32
  let v269 : BitVec 1 := Scalar.cmpi .ne v268 c0_i32_130
  v269

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_335 : BitVec 32 := 0#32
  let c0_i32_336 : BitVec 32 := 0#32
  ![v2.toNat, 0, 0]
def k0_dev10 : Nat :=
  let c0_i32_334 : BitVec 32 := 0#32
  let c2_i32_332 : BitVec 32 := 2#32
  let c1_i32_333 : BitVec 32 := 1#32
  let v575 : BitVec 32 := Scalar.muli c2_i32_332 c1_i32_333
  let v576 : BitVec 32 := Scalar.addi c0_i32_334 v575
  v576.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_131 : BitVec 32 := 3#32
  let v270 : BitVec 1 := Scalar.cmpi .ne v2 c3_i32_131
  let v271 : BitVec 32 := Scalar.extui v270
  let c0_i32_133 : BitVec 32 := 0#32
  let v272 : BitVec 1 := Scalar.cmpi .ne v271 c0_i32_133
  v272

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_335 : BitVec 32 := 0#32
  let c0_i32_336 : BitVec 32 := 0#32
  ![v2.toNat, 0, 0]
def k0_dev11 : Nat :=
  let c0_i32_334 : BitVec 32 := 0#32
  let c3_i32_332 : BitVec 32 := 3#32
  let c1_i32_333 : BitVec 32 := 1#32
  let v575 : BitVec 32 := Scalar.muli c3_i32_332 c1_i32_333
  let v576 : BitVec 32 := Scalar.addi c0_i32_334 v575
  v576.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_179 : BitVec 32 := 4#32
  let v407 : BitVec 1 := Scalar.cmpi .ne v2 c4_i32_179
  let v408 : BitVec 32 := Scalar.extui v407
  let c0_i32_181 : BitVec 32 := 0#32
  let v409 : BitVec 1 := Scalar.cmpi .ne v408 c0_i32_181
  v409

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_335 : BitVec 32 := 0#32
  let c0_i32_336 : BitVec 32 := 0#32
  ![v2.toNat, 0, 0]
def k0_dev12 : Nat :=
  let c0_i32_334 : BitVec 32 := 0#32
  let c4_i32_332 : BitVec 32 := 4#32
  let c1_i32_333 : BitVec 32 := 1#32
  let v575 : BitVec 32 := Scalar.muli c4_i32_332 c1_i32_333
  let v576 : BitVec 32 := Scalar.addi c0_i32_334 v575
  v576.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_182 : BitVec 32 := 5#32
  let v410 : BitVec 1 := Scalar.cmpi .ne v2 c5_i32_182
  let v411 : BitVec 32 := Scalar.extui v410
  let c0_i32_184 : BitVec 32 := 0#32
  let v412 : BitVec 1 := Scalar.cmpi .ne v411 c0_i32_184
  v412

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_335 : BitVec 32 := 0#32
  let c0_i32_336 : BitVec 32 := 0#32
  ![v2.toNat, 0, 0]
def k0_dev13 : Nat :=
  let c0_i32_334 : BitVec 32 := 0#32
  let c5_i32_332 : BitVec 32 := 5#32
  let c1_i32_333 : BitVec 32 := 1#32
  let v575 : BitVec 32 := Scalar.muli c5_i32_332 c1_i32_333
  let v576 : BitVec 32 := Scalar.addi c0_i32_334 v575
  v576.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_185 : BitVec 32 := 6#32
  let v413 : BitVec 1 := Scalar.cmpi .ne v2 c6_i32_185
  let v414 : BitVec 32 := Scalar.extui v413
  let c0_i32_187 : BitVec 32 := 0#32
  let v415 : BitVec 1 := Scalar.cmpi .ne v414 c0_i32_187
  v415

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_335 : BitVec 32 := 0#32
  let c0_i32_336 : BitVec 32 := 0#32
  ![v2.toNat, 0, 0]
def k0_dev14 : Nat :=
  let c0_i32_334 : BitVec 32 := 0#32
  let c6_i32_332 : BitVec 32 := 6#32
  let c1_i32_333 : BitVec 32 := 1#32
  let v575 : BitVec 32 := Scalar.muli c6_i32_332 c1_i32_333
  let v576 : BitVec 32 := Scalar.addi c0_i32_334 v575
  v576.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_188 : BitVec 32 := 7#32
  let v416 : BitVec 1 := Scalar.cmpi .ne v2 c7_i32_188
  let v417 : BitVec 32 := Scalar.extui v416
  let c0_i32_190 : BitVec 32 := 0#32
  let v418 : BitVec 1 := Scalar.cmpi .ne v417 c0_i32_190
  v418

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_335 : BitVec 32 := 0#32
  let c0_i32_336 : BitVec 32 := 0#32
  ![v2.toNat, 0, 0]
def k0_dev15 : Nat :=
  let c0_i32_334 : BitVec 32 := 0#32
  let c7_i32_332 : BitVec 32 := 7#32
  let c1_i32_333 : BitVec 32 := 1#32
  let v575 : BitVec 32 := Scalar.muli c7_i32_332 c1_i32_333
  let v576 : BitVec 32 := Scalar.addi c0_i32_334 v575
  v576.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_191 : BitVec 32 := 64#32
  let v419 : BitVec 32 := Scalar.muli v2 c64_i32_191
  let v420 : Index := Scalar.indexCast v419
  let c0_192 : Index := 0#32
  ![v420.toNat, 0]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v422 : Index := Scalar.indexCast v2
  let c0_193 : Index := 0#32
  let c0_194 : Index := 0#32
  ![v422.toNat, 0, 0]
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_221 : BitVec 32 := 0#32
  let v463 : BitVec 1 := Scalar.cmpi .ne v2 c0_i32_221
  let v464 : BitVec 32 := Scalar.extui v463
  let c0_i32_223 : BitVec 32 := 0#32
  let v465 : BitVec 1 := Scalar.cmpi .ne v464 c0_i32_223
  v465

def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v95 : BitVec 32 := Scalar.muli v2 c64_i32
  let c0_i32_335 : BitVec 32 := 0#32
  ![v95.toNat, 0]
def k0_dev16 : Nat :=
  let c0_i32_334 : BitVec 32 := 0#32
  let c0_i32_332 : BitVec 32 := 0#32
  let c1_i32_333 : BitVec 32 := 1#32
  let v575 : BitVec 32 := Scalar.muli c0_i32_332 c1_i32_333
  let v576 : BitVec 32 := Scalar.addi c0_i32_334 v575
  v576.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_224 : BitVec 32 := 1#32
  let v466 : BitVec 1 := Scalar.cmpi .ne v2 c1_i32_224
  let v467 : BitVec 32 := Scalar.extui v466
  let c0_i32_226 : BitVec 32 := 0#32
  let v468 : BitVec 1 := Scalar.cmpi .ne v467 c0_i32_226
  v468

def k0_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_63 : BitVec 32 := 64#32
  let v96 : BitVec 32 := Scalar.muli v2 c64_i32_63
  let c0_i32_335 : BitVec 32 := 0#32
  ![v96.toNat, 0]
def k0_dev17 : Nat :=
  let c0_i32_334 : BitVec 32 := 0#32
  let c1_i32_332 : BitVec 32 := 1#32
  let c1_i32_333 : BitVec 32 := 1#32
  let v575 : BitVec 32 := Scalar.muli c1_i32_332 c1_i32_333
  let v576 : BitVec 32 := Scalar.addi c0_i32_334 v575
  v576.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_227 : BitVec 32 := 2#32
  let v469 : BitVec 1 := Scalar.cmpi .ne v2 c2_i32_227
  let v470 : BitVec 32 := Scalar.extui v469
  let c0_i32_229 : BitVec 32 := 0#32
  let v471 : BitVec 1 := Scalar.cmpi .ne v470 c0_i32_229
  v471

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_64 : BitVec 32 := 64#32
  let v97 : BitVec 32 := Scalar.muli v2 c64_i32_64
  let c0_i32_335 : BitVec 32 := 0#32
  ![v97.toNat, 0]
def k0_dev18 : Nat :=
  let c0_i32_334 : BitVec 32 := 0#32
  let c2_i32_332 : BitVec 32 := 2#32
  let c1_i32_333 : BitVec 32 := 1#32
  let v575 : BitVec 32 := Scalar.muli c2_i32_332 c1_i32_333
  let v576 : BitVec 32 := Scalar.addi c0_i32_334 v575
  v576.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_230 : BitVec 32 := 3#32
  let v472 : BitVec 1 := Scalar.cmpi .ne v2 c3_i32_230
  let v473 : BitVec 32 := Scalar.extui v472
  let c0_i32_232 : BitVec 32 := 0#32
  let v474 : BitVec 1 := Scalar.cmpi .ne v473 c0_i32_232
  v474

def k0_off25 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_65 : BitVec 32 := 64#32
  let v98 : BitVec 32 := Scalar.muli v2 c64_i32_65
  let c0_i32_335 : BitVec 32 := 0#32
  ![v98.toNat, 0]
def k0_dev19 : Nat :=
  let c0_i32_334 : BitVec 32 := 0#32
  let c3_i32_332 : BitVec 32 := 3#32
  let c1_i32_333 : BitVec 32 := 1#32
  let v575 : BitVec 32 := Scalar.muli c3_i32_332 c1_i32_333
  let v576 : BitVec 32 := Scalar.addi c0_i32_334 v575
  v576.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_233 : BitVec 32 := 4#32
  let v475 : BitVec 1 := Scalar.cmpi .ne v2 c4_i32_233
  let v476 : BitVec 32 := Scalar.extui v475
  let c0_i32_235 : BitVec 32 := 0#32
  let v477 : BitVec 1 := Scalar.cmpi .ne v476 c0_i32_235
  v477

def k0_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_66 : BitVec 32 := 64#32
  let v99 : BitVec 32 := Scalar.muli v2 c64_i32_66
  let c0_i32_335 : BitVec 32 := 0#32
  ![v99.toNat, 0]
def k0_dev20 : Nat :=
  let c0_i32_334 : BitVec 32 := 0#32
  let c4_i32_332 : BitVec 32 := 4#32
  let c1_i32_333 : BitVec 32 := 1#32
  let v575 : BitVec 32 := Scalar.muli c4_i32_332 c1_i32_333
  let v576 : BitVec 32 := Scalar.addi c0_i32_334 v575
  v576.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_236 : BitVec 32 := 5#32
  let v478 : BitVec 1 := Scalar.cmpi .ne v2 c5_i32_236
  let v479 : BitVec 32 := Scalar.extui v478
  let c0_i32_238 : BitVec 32 := 0#32
  let v480 : BitVec 1 := Scalar.cmpi .ne v479 c0_i32_238
  v480

def k0_off29 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_67 : BitVec 32 := 64#32
  let v100 : BitVec 32 := Scalar.muli v2 c64_i32_67
  let c0_i32_335 : BitVec 32 := 0#32
  ![v100.toNat, 0]
def k0_dev21 : Nat :=
  let c0_i32_334 : BitVec 32 := 0#32
  let c5_i32_332 : BitVec 32 := 5#32
  let c1_i32_333 : BitVec 32 := 1#32
  let v575 : BitVec 32 := Scalar.muli c5_i32_332 c1_i32_333
  let v576 : BitVec 32 := Scalar.addi c0_i32_334 v575
  v576.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_239 : BitVec 32 := 6#32
  let v481 : BitVec 1 := Scalar.cmpi .ne v2 c6_i32_239
  let v482 : BitVec 32 := Scalar.extui v481
  let c0_i32_241 : BitVec 32 := 0#32
  let v483 : BitVec 1 := Scalar.cmpi .ne v482 c0_i32_241
  v483

def k0_off31 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_68 : BitVec 32 := 64#32
  let v101 : BitVec 32 := Scalar.muli v2 c64_i32_68
  let c0_i32_335 : BitVec 32 := 0#32
  ![v101.toNat, 0]
def k0_dev22 : Nat :=
  let c0_i32_334 : BitVec 32 := 0#32
  let c6_i32_332 : BitVec 32 := 6#32
  let c1_i32_333 : BitVec 32 := 1#32
  let v575 : BitVec 32 := Scalar.muli c6_i32_332 c1_i32_333
  let v576 : BitVec 32 := Scalar.addi c0_i32_334 v575
  v576.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_242 : BitVec 32 := 7#32
  let v484 : BitVec 1 := Scalar.cmpi .ne v2 c7_i32_242
  let v485 : BitVec 32 := Scalar.extui v484
  let c0_i32_244 : BitVec 32 := 0#32
  let v486 : BitVec 1 := Scalar.cmpi .ne v485 c0_i32_244
  v486

def k0_off33 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_69 : BitVec 32 := 64#32
  let v102 : BitVec 32 := Scalar.muli v2 c64_i32_69
  let c0_i32_335 : BitVec 32 := 0#32
  ![v102.toNat, 0]
def k0_dev23 : Nat :=
  let c0_i32_334 : BitVec 32 := 0#32
  let c7_i32_332 : BitVec 32 := 7#32
  let c1_i32_333 : BitVec 32 := 1#32
  let v575 : BitVec 32 := Scalar.muli c7_i32_332 c1_i32_333
  let v576 : BitVec 32 := Scalar.addi c0_i32_334 v575
  v576.toNat
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_300 : BitVec 32 := 0#32
  let v551 : BitVec 1 := Scalar.cmpi .ne v2 c0_i32_300
  let v552 : BitVec 32 := Scalar.extui v551
  let c0_i32_303 : BitVec 32 := 0#32
  let v553 : BitVec 1 := Scalar.cmpi .ne v552 c0_i32_303
  v553

def k0_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_336 : BitVec 32 := 0#32
  let c0_i32_337 : BitVec 32 := 0#32
  ![v2.toNat, 0, 0]
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v95 : BitVec 32 := Scalar.muli v2 c64_i32
  let c0_i32_340 : BitVec 32 := 0#32
  ![v95.toNat, 0]
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_304 : BitVec 32 := 1#32
  let v554 : BitVec 1 := Scalar.cmpi .ne v2 c1_i32_304
  let v555 : BitVec 32 := Scalar.extui v554
  let c0_i32_307 : BitVec 32 := 0#32
  let v556 : BitVec 1 := Scalar.cmpi .ne v555 c0_i32_307
  v556

def k0_off37 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_336 : BitVec 32 := 0#32
  let c0_i32_337 : BitVec 32 := 0#32
  ![v2.toNat, 0, 0]
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_63 : BitVec 32 := 64#32
  let v96 : BitVec 32 := Scalar.muli v2 c64_i32_63
  let c0_i32_340 : BitVec 32 := 0#32
  ![v96.toNat, 0]
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_308 : BitVec 32 := 2#32
  let v557 : BitVec 1 := Scalar.cmpi .ne v2 c2_i32_308
  let v558 : BitVec 32 := Scalar.extui v557
  let c0_i32_311 : BitVec 32 := 0#32
  let v559 : BitVec 1 := Scalar.cmpi .ne v558 c0_i32_311
  v559

def k0_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_335 : BitVec 32 := 0#32
  let c0_i32_336 : BitVec 32 := 0#32
  ![v2.toNat, 0, 0]
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_64 : BitVec 32 := 64#32
  let v97 : BitVec 32 := Scalar.muli v2 c64_i32_64
  let c0_i32_339 : BitVec 32 := 0#32
  ![v97.toNat, 0]
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_312 : BitVec 32 := 3#32
  let v560 : BitVec 1 := Scalar.cmpi .ne v2 c3_i32_312
  let v561 : BitVec 32 := Scalar.extui v560
  let c0_i32_315 : BitVec 32 := 0#32
  let v562 : BitVec 1 := Scalar.cmpi .ne v561 c0_i32_315
  v562

def k0_off41 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_335 : BitVec 32 := 0#32
  let c0_i32_336 : BitVec 32 := 0#32
  ![v2.toNat, 0, 0]
def k0_off42 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_65 : BitVec 32 := 64#32
  let v98 : BitVec 32 := Scalar.muli v2 c64_i32_65
  let c0_i32_339 : BitVec 32 := 0#32
  ![v98.toNat, 0]
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_316 : BitVec 32 := 4#32
  let v563 : BitVec 1 := Scalar.cmpi .ne v2 c4_i32_316
  let v564 : BitVec 32 := Scalar.extui v563
  let c0_i32_319 : BitVec 32 := 0#32
  let v565 : BitVec 1 := Scalar.cmpi .ne v564 c0_i32_319
  v565

def k0_off43 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_335 : BitVec 32 := 0#32
  let c0_i32_336 : BitVec 32 := 0#32
  ![v2.toNat, 0, 0]
def k0_off44 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_66 : BitVec 32 := 64#32
  let v99 : BitVec 32 := Scalar.muli v2 c64_i32_66
  let c0_i32_339 : BitVec 32 := 0#32
  ![v99.toNat, 0]
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_320 : BitVec 32 := 5#32
  let v566 : BitVec 1 := Scalar.cmpi .ne v2 c5_i32_320
  let v567 : BitVec 32 := Scalar.extui v566
  let c0_i32_323 : BitVec 32 := 0#32
  let v568 : BitVec 1 := Scalar.cmpi .ne v567 c0_i32_323
  v568

def k0_off45 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_335 : BitVec 32 := 0#32
  let c0_i32_336 : BitVec 32 := 0#32
  ![v2.toNat, 0, 0]
def k0_off46 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_67 : BitVec 32 := 64#32
  let v100 : BitVec 32 := Scalar.muli v2 c64_i32_67
  let c0_i32_339 : BitVec 32 := 0#32
  ![v100.toNat, 0]
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_324 : BitVec 32 := 6#32
  let v569 : BitVec 1 := Scalar.cmpi .ne v2 c6_i32_324
  let v570 : BitVec 32 := Scalar.extui v569
  let c0_i32_327 : BitVec 32 := 0#32
  let v571 : BitVec 1 := Scalar.cmpi .ne v570 c0_i32_327
  v571

def k0_off47 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_335 : BitVec 32 := 0#32
  let c0_i32_336 : BitVec 32 := 0#32
  ![v2.toNat, 0, 0]
def k0_off48 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_68 : BitVec 32 := 64#32
  let v101 : BitVec 32 := Scalar.muli v2 c64_i32_68
  let c0_i32_339 : BitVec 32 := 0#32
  ![v101.toNat, 0]
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_328 : BitVec 32 := 7#32
  let v572 : BitVec 1 := Scalar.cmpi .ne v2 c7_i32_328
  let v573 : BitVec 32 := Scalar.extui v572
  let c0_i32_331 : BitVec 32 := 0#32
  let v574 : BitVec 1 := Scalar.cmpi .ne v573 c0_i32_331
  v574

def k0_off49 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_335 : BitVec 32 := 0#32
  let c0_i32_336 : BitVec 32 := 0#32
  ![v2.toNat, 0, 0]
def k0_off50 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_69 : BitVec 32 := 64#32
  let v102 : BitVec 32 := Scalar.muli v2 c64_i32_69
  let c0_i32_339 : BitVec 32 := 0#32
  ![v102.toNat, 0]
abbrev stage0_0 : Fin 1 → Memref sig .tc .vmem S2x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "c" => some (((1 / 8) * (Real.log 2)⁻¹ : ℝ) : EReal)
  | _ => none
-- ==== ReferenceIdeal.lean ====
abbrev S2x256x768 : Shape := ⟨3, ![2, 256, 768]⟩
abbrev S768x4096 : Shape := ⟨2, ![768, 4096]⟩
abbrev S4096x768 : Shape := ⟨2, ![4096, 768]⟩
abbrev S2x256x4096 : Shape := ⟨3, ![2, 256, 4096]⟩
abbrev S2x256x64x64 : Shape := ⟨4, ![2, 256, 64, 64]⟩
abbrev S_ : Shape := ⟨0, ![]⟩
abbrev S2x64x256x1 : Shape := ⟨4, ![2, 64, 256, 1]⟩
abbrev S2x64x256x256 : Shape := ⟨4, ![2, 64, 256, 256]⟩
abbrev S2x64x256 : Shape := ⟨3, ![2, 64, 256]⟩
abbrev S2x256x64x1 : Shape := ⟨4, ![2, 256, 64, 1]⟩
abbrev S2x64x64x256 : Shape := ⟨4, ![2, 64, 64, 256]⟩

abbrev nBuf : Space → Nat
  | .hbm => 46
  | .vmem => 0
  | .smem => 0
  | _ => 0

abbrev bufTy : (tb : Table) → Fin (tcTables nBuf tb) → BufTy
  | .hbm, ⟨0, _⟩ => ⟨S2x256x768, .f32⟩
  | .hbm, ⟨1, _⟩ => ⟨S768x4096, .f32⟩
  | .hbm, ⟨2, _⟩ => ⟨S768x4096, .f32⟩
  | .hbm, ⟨3, _⟩ => ⟨S768x4096, .f32⟩
  | .hbm, ⟨4, _⟩ => ⟨S4096x768, .f32⟩
  | .hbm, ⟨5, _⟩ => ⟨S2x256x4096, .f32⟩
  | .hbm, ⟨6, _⟩ => ⟨S2x256x64x64, .f32⟩
  | .hbm, ⟨7, _⟩ => ⟨S2x256x4096, .f32⟩
  | .hbm, ⟨8, _⟩ => ⟨S2x256x64x64, .f32⟩
  | .hbm, ⟨9, _⟩ => ⟨S2x256x4096, .f32⟩
  | .hbm, ⟨10, _⟩ => ⟨S2x256x64x64, .f32⟩
  | .hbm, ⟨11, _⟩ => ⟨S_, .f32⟩
  | .hbm, ⟨12, _⟩ => ⟨S2x256x64x64, .f32⟩
  | .hbm, ⟨13, _⟩ => ⟨S_, .f32⟩
  | .hbm, ⟨14, _⟩ => ⟨S2x64x256x1, .f32⟩
  | .hbm, ⟨15, _⟩ => ⟨S_, .f32⟩
  | .hbm, ⟨16, _⟩ => ⟨S2x64x256x1, .f32⟩
  | .hbm, ⟨17, _⟩ => ⟨S2x64x256x256, .f32⟩
  | .hbm, ⟨18, _⟩ => ⟨S_, .f32⟩
  | .hbm, ⟨19, _⟩ => ⟨S2x64x256x256, .f32⟩
  | .hbm, ⟨20, _⟩ => ⟨S2x64x256x256, .f32⟩
  | .hbm, ⟨21, _⟩ => ⟨S_, .f32⟩
  | .hbm, ⟨22, _⟩ => ⟨S2x64x256, .f32⟩
  | .hbm, ⟨23, _⟩ => ⟨S2x64x256x1, .f32⟩
  | .hbm, ⟨24, _⟩ => ⟨S2x64x256x1, .f32⟩
  | .hbm, ⟨25, _⟩ => ⟨S2x64x256x1, .f32⟩
  | .hbm, ⟨26, _⟩ => ⟨S2x64x256x1, .f32⟩
  | .hbm, ⟨27, _⟩ => ⟨S2x64x256x256, .f32⟩
  | .hbm, ⟨28, _⟩ => ⟨S2x64x256x256, .f32⟩
  | .hbm, ⟨29, _⟩ => ⟨S2x64x256x256, .f32⟩
  | .hbm, ⟨30, _⟩ => ⟨S2x64x256x1, .f32⟩
  | .hbm, ⟨31, _⟩ => ⟨S_, .f32⟩
  | .hbm, ⟨32, _⟩ => ⟨S2x64x256, .f32⟩
  | .hbm, ⟨33, _⟩ => ⟨S2x64x256x1, .f32⟩
  | .hbm, ⟨34, _⟩ => ⟨S2x64x256x1, .f32⟩
  | .hbm, ⟨35, _⟩ => ⟨S2x256x64x1, .f32⟩
  | .hbm, ⟨36, _⟩ => ⟨S2x256x64x64, .f32⟩
  | .hbm, ⟨37, _⟩ => ⟨S2x256x64x64, .f32⟩
  | .hbm, ⟨38, _⟩ => ⟨S2x64x64x256, .f32⟩
  | .hbm, ⟨39, _⟩ => ⟨S2x256x64x64, .f32⟩
  | .hbm, ⟨40, _⟩ => ⟨S2x256x64x64, .f32⟩
  | .hbm, ⟨41, _⟩ => ⟨S2x256x64x1, .f32⟩
  | .hbm, ⟨42, _⟩ => ⟨S2x256x64x64, .f32⟩
  | .hbm, ⟨43, _⟩ => ⟨S2x256x64x64, .f32⟩
  | .hbm, ⟨44, _⟩ => ⟨S2x256x4096, .f32⟩
  | .hbm, ⟨45, _⟩ => ⟨S2x256x768, .f32⟩
  | _, _ => ⟨S2x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Proof.Fam.lean ====
/-
# Families over the eight devices

Tools that do not read the program: a family of resources indexed by the eight devices, changed one member
at a time in increasing order; the debts still to be paid, again in that order; a write that extends by one
block the part of a buffer known to hold its final contents; and the two cases of a conditional.
-/
module

public import Idealize.ShloMosaic.Lib.Pipeline.Launch
public import Idealize.ShloMosaic.Lib.Pipeline.Kit
public import Idealize.ShloMosaic.Lib.Tactic

@[expose] public section

noncomputable section

namespace Cert.Fam

open Idealize.ShloMosaic
open Idealize.SL Idealize.SL.RA Idealize.SL.BI
open scoped Idealize.SL.BI
open Idealize.SL.BI.BIBase Idealize.SL.BI.Laws Idealize.SL.ProofMode Idealize.SL.Sem

section families

variable {M : Type} [URA M]

/-- The family whose members below `n` are `B`'s and the others `A`'s. -/
def mix (A B : Fin 8 → sProp M) (n : ℕ) (t : Fin 8) : sProp M := if t.val < n then B t else A t

theorem mix_zero (A B : Fin 8 → sProp M) : bigSep Finset.univ (mix A B 0) = bigSep Finset.univ A :=
  bigSep_congr fun t _ => if_neg (Nat.not_lt_zero _)

theorem mix_all (A B : Fin 8 → sProp M) : bigSep Finset.univ (mix A B 8) = bigSep Finset.univ B :=
  bigSep_congr fun t _ => if_pos t.isLt

/-- Member `n` taken out as `A n` and put back as `B n`. -/
theorem mix_step (A B : Fin 8 → sProp M) (n : Fin 8) :
    (bigSep Finset.univ (mix A B n.val) : sProp M)
      ⊢ iprop(A n ∗ (B n -∗ bigSep Finset.univ (mix A B (n.val + 1)))) := by
  rw [bigSep_univ_at (mix A B n.val) n, bigSep_univ_at (mix A B (n.val + 1)) n,
    show mix A B n.val n = A n from if_neg (Nat.lt_irrefl _),
    show mix A B (n.val + 1) n = B n from if_pos (Nat.lt_succ_self _),
    bigSep_congr (s := Finset.univ.erase n) (Φ := mix A B n.val) (Ψ := mix A B (n.val + 1)) fun t ht => by
      have hne : t.val ≠ n.val := fun h => (Finset.mem_erase.mp ht).1 (Fin.ext h)
      unfold mix
      by_cases h : t.val < n.val
      · rw [if_pos h, if_pos (by omega)]
      · rw [if_neg h, if_neg (by omega)]]
  iintro ⟨HA, HR⟩
  isplitl [HA]; · iexact HA
  iintro HB
  isplitl [HB]; · iexact HB
  iexact HR

/-- Every member there except that of device `c`. -/
def off (c : Fin 8) (A : Fin 8 → sProp M) (t : Fin 8) : sProp M := if t = c then iprop(emp) else A t
/-- The member of device `c` alone. -/
def only (c : Fin 8) (A : Fin 8 → sProp M) (t : Fin 8) : sProp M := if t = c then A t else iprop(emp)

theorem off_self (c : Fin 8) (A : Fin 8 → sProp M) : off c A c = iprop(emp) := if_pos rfl
theorem off_ne {c t : Fin 8} (h : t ≠ c) (A : Fin 8 → sProp M) : off c A t = A t := if_neg h
theorem only_self (c : Fin 8) (A : Fin 8 → sProp M) : only c A c = A c := if_pos rfl
theorem only_ne {c t : Fin 8} (h : t ≠ c) (A : Fin 8 → sProp M) : only c A t = iprop(emp) := if_neg h

theorem only_all (c : Fin 8) (A : Fin 8 → sProp M) : bigSep Finset.univ (only c A) = A c := by
  refine (bigSep_filter Finset.univ (· = c) A).symm.trans ?_
  rw [Finset.filter_eq', if_pos (Finset.mem_univ _)]
  exact bigSep_singleton

/-- A whole family is the member at `c` beside the others. -/
theorem off_split (c : Fin 8) (A : Fin 8 → sProp M) :
    (bigSep Finset.univ A : sProp M) = iprop(A c ∗ bigSep Finset.univ (off c A)) := by
  rw [bigSep_univ_at A c, bigSep_univ_at (off c A) c, off_self,
    bigSep_congr (s := Finset.univ.erase c) (Φ := off c A) (Ψ := A) fun t ht => off_ne (Finset.mem_erase.mp ht).1 A]
  refine Entails.antisymm (show _ ⊢ (_ : sProp M) from ?_) (show _ ⊢ (_ : sProp M) from ?_)
  · iintro ⟨H, HR⟩
    isplitl [H]; · iexact H
    isplitr
    · iempintro
    · iexact HR
  · iintro ⟨H, -, HR⟩
    isplitl [H]; · iexact H
    iexact HR

end families

section tallies

variable {T : Type} [AddCommMonoid T]

/-- The members of `f` from `n` on, summed. -/
def rest (f : Fin 8 → T) (n : ℕ) : T := ∑ t ∈ Finset.univ.filter (fun t : Fin 8 => n ≤ t.val), f t

theorem rest_all (f : Fin 8 → T) : rest f 0 = ∑ t, f t := by
  unfold rest; rw [Finset.filter_true_of_mem fun t _ => Nat.zero_le _]

theorem rest_done (f : Fin 8 → T) : rest f 8 = 0 := by
  unfold rest; rw [Finset.filter_false_of_mem fun t _ => Nat.not_le.2 t.isLt, Finset.sum_empty]

theorem rest_step (f : Fin 8 → T) (n : Fin 8) : rest f n.val = rest f (n.val + 1) + f n := by
  unfold rest
  rw [show Finset.univ.filter (fun t : Fin 8 => n.val ≤ t.val)
      = insert n (Finset.univ.filter (fun t : Fin 8 => n.val + 1 ≤ t.val)) from by
    ext t
    rw [Finset.mem_insert, Finset.mem_filter, Finset.mem_filter, Fin.ext_iff]
    simp only [Finset.mem_univ, true_and]
    omega, Finset.sum_insert (by simp), add_comm]

end tallies

section writes

variable {sig : RefSig} {κ : Kind} {sp : Space} {s : Shape} {e : EltTy} {Val : EltTy → Type}

/-- A buffer whose blocks numbered below `n` hold the contents `G` holds them below `n + 1` after block `n` is
    written through a view that covers the block, the payload being `G` as the view reads it. -/
theorem write_prefix (v : View sig κ sp s e) (bn : v.ty.Idx → ℕ) (n : ℕ) (G f : v.ty.Contents Val) (w : s.Idx → Val e)
    (hw : w = v.read Val G) (hv : ∀ i, bn i = n → i ∈ v.set) (hf : ∀ i, bn i < n → f i = G i) :
    ∀ i, bn i < n + 1 → v.write Val f w Finset.univ i = G i := by
  intro i hi
  by_cases h : i ∈ v.set
  · obtain ⟨x, -, rfl⟩ := Finset.mem_map.mp h
    rw [View.write_emb_of_mem _ _ (Finset.mem_univ x), hw, View.read_apply, cast_cast, cast_eq]
  · rw [View.write_of_not_mem _ _ _ h]
    exact hf i (Nat.lt_of_le_of_ne (Nat.lt_succ_iff.mp hi) fun h' => h (hv i h'))

/-- A write of what the view reads off `G` leaves `G` on the view's elements. -/
theorem write_read_on (v : View sig κ sp s e) (G f : v.ty.Contents Val) (w : s.Idx → Val e)
    (hw : w = v.read Val G) : ∀ i ∈ v.set, v.write Val f w Finset.univ i = G i := by
  intro i h
  obtain ⟨x, -, rfl⟩ := Finset.mem_map.mp h
  rw [View.write_emb_of_mem _ _ (Finset.mem_univ x), hw, View.read_apply, cast_cast, cast_eq]

end writes

end Cert.Fam

end
-- ==== Proof.Cells.lean ====
/-
# The cells, the parts of the buffers, and what they hold

Names for the kernel's buffers and semaphores, the eight parts a buffer is dealt into, and the final contents
of every buffer as one function of the inputs of all devices.
-/
module

public import proofs.«01_k».proof.Proof.Fam
public import proofs.«01_k».proof.Proof.Gen.KernelIdeal
public import proofs.«01_k».proof.Proof.Gen.KernelIdeal.Skeleton
public import proofs.«01_k».proof.Proof.Gen.KernelIdeal.Launch
public import Idealize.ShloMosaic.Lib.ValueIdxCore
public import Idealize.ShloMosaic.Lib.Transfers

@[expose] public section

noncomputable section

namespace Cert.KernelIdealProof

open Cert.KernelIdeal Cert.KernelIdeal.Gen Cert.Fam

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## Buffers -/

abbrev xM : Memref sig .tc .vmem S2x256x768 .f32 := Memref.whole cc0_stg0_0
abbrev wqM : Memref sig .tc .vmem S768x512 .f32 := Memref.whole cc0_stg1_0
abbrev woM : Memref sig .tc .vmem S512x768 .f32 := Memref.whole cc0_stg2_0
abbrev wkM : Memref sig .tc .vmem S768x512 .f32 := Memref.whole cc0_stg3_0
abbrev wvM : Memref sig .tc .vmem S768x512 .f32 := Memref.whole cc0_stg4_0
abbrev outM : Memref sig .tc .vmem S2x256x768 .f32 := Memref.whole cc0_stg5_0
abbrev atM : Memref sig .tc .vmem S512x512 .bf16 := Memref.whole cc0_scratch0
abbrev caM : Memref sig .tc .vmem S512x768 .bf16 := Memref.whole cc0_scratch1
abbrev rsM : Memref sig .tc .vmem S8x64x768 .bf16 := Memref.whole cc0_scratch2
abbrev agM : Memref sig .tc .vmem S512x768 .bf16 := Memref.whole cc0_scratch3
abbrev asM : Memref sig .tc .vmem S64x768 .bf16 := Memref.whole cc0_scratch4

/-! ## Semaphores -/

/-- The barrier semaphore. -/
abbrev barS : Sem sig := (SemArray.scalar (sig.barrier 0 rfl) : Sems sig S_).sem

/-- The four rows of DMA semaphores: 0 sends and 1 receives the partial products, 2 sends and 3 receives the
    summed rows. Entry `q` of row `k`: -/
def dsem (k : Fin 4) (q : Fin 8) : DmaSem sig := ⟨6 + 8 * k.val + q.val, by have := k.isLt; have := q.isLt; show _ < 38; omega⟩

abbrev semRow : Fin 4 → DmaSems sig S8 := fun | 0 => cc0_scratch5 | 1 => cc0_scratch6 | 2 => cc0_scratch7 | 3 => cc0_scratch8

/-- A semaphore the program names by slicing a row at offset `q` and dropping the axis. -/
theorem semRow_at (k : Fin 4) (q : Fin 8) (off : Fin 1 → ℕ) (h : off = ![q.val]) (inb : ∀ a, off a + S1.size a ≤ S8.size a) (hs : S1.Squeezes S_) :
    (((semRow k).slice (Rect.unit (s := S8) off S1.size inb)).squeeze S_ hs).sem = dsem k q := by
  subst h
  have hr : ∀ j : S1.Idx, (S8.rowMajor ((Rect.unit (s := S8) ![q.val] S1.size inb).emb j)).val = q.val := fun j => by
    have hj : (j 0).val = 0 := Nat.lt_one_iff.mp (j 0).isLt
    refine (Shape.rowMajor_val_one (d := S8.size) _).trans ?_
    show q.val + 1 * (j 0).val = q.val
    omega
  fin_cases k <;> exact Fin.ext (congrArg (_ + ·) (hr _))

abbrev barCell (c : Dev nD) : GSem nD τ sig := ((c : Thread nD τ), .reg barS)
abbrev xCell (k : Fin 4) (q : Fin 8) (c : Dev nD) : GSem nD τ sig := ((c : Thread nD τ), .dma (dsem k q))

theorem dsem_inj {k k' : Fin 4} {q q' : Fin 8} (h : dsem k q = dsem k' q') : k = k' ∧ q = q' := by
  have h := congrArg Fin.val h
  simp only [dsem] at h
  have := q.isLt; have := q'.isLt
  exact ⟨Fin.ext (by omega), Fin.ext (by omega)⟩

/-- The bytes every remote copy of this kernel moves. -/
abbrev N : ℕ := (asM : Memref sig .tc .vmem S64x768 .bf16).view.dmaCredit
theorem N_pos : 0 < N := View.dmaCredit_pos _ (by decide)

/-! ## Parts of the buffers -/

/-- Rows `64 q` to `64 q + 63` of a 512 by 768 buffer. -/
def rows (q : Fin 8) : Finset S512x768.Idx := Finset.univ.filter fun i => (i 0).val / 64 = q.val
/-- Slot `q` of the buffer of the eight landed parts. -/
def slot (q : Fin 8) : Finset S8x64x768.Idx := Finset.univ.filter fun i => (i 0).val = q.val

theorem mem_rows {q : Fin 8} {i : S512x768.Idx} : i ∈ rows q ↔ (i 0).val / 64 = q.val := by simp [rows]
theorem mem_slot {q : Fin 8} {i : S8x64x768.Idx} : i ∈ slot q ↔ (i 0).val = q.val := by simp [slot]

theorem rows_rect (q : Fin 8) (off : Fin 2 → ℕ) (h : off = ![64 * q.val, 0]) (inb : ∀ a, off a + S64x768.size a ≤ S512x768.size a) :
    (Rect.unit (s := S512x768) off S64x768.size inb).set = rows q := by
  subst h
  ext i
  rw [Rect.mem_set_unit, mem_rows, Fin.forall_fin_two]
  have h1 : (i 1).val < 768 := (i 1).isLt
  show (64 * q.val ≤ (i 0).val ∧ (i 0).val < 64 * q.val + 64) ∧ (0 ≤ (i 1).val ∧ (i 1).val < 0 + 768) ↔ _
  omega

theorem slot_rect (q : Fin 8) (off : Fin 3 → ℕ) (h : off = ![q.val, 0, 0]) (inb : ∀ a, off a + S1x64x768.size a ≤ S8x64x768.size a) :
    (Rect.unit (s := S8x64x768) off S1x64x768.size inb).set = slot q := by
  subst h
  ext i
  rw [Rect.mem_set_unit, mem_slot]
  have h1 : (i 1).val < 64 := (i 1).isLt
  have h2 : (i 2).val < 768 := (i 2).isLt
  constructor
  · intro h
    have h0 : q.val ≤ (i 0).val ∧ (i 0).val < q.val + 1 := h 0
    omega
  · intro h a
    fin_cases a
    · show q.val ≤ (i 0).val ∧ (i 0).val < q.val + 1; omega
    · show 0 ≤ (i 1).val ∧ (i 1).val < 0 + 64; omega
    · show 0 ≤ (i 2).val ∧ (i 2).val < 0 + 768; omega

theorem rows_disjoint {q q' : Fin 8} (h : q ≠ q') : Disjoint (rows q) (rows q') :=
  Finset.disjoint_left.mpr fun i hi hi' => h (Fin.ext ((mem_rows.mp hi).symm.trans (mem_rows.mp hi')))
theorem slot_disjoint {q q' : Fin 8} (h : q ≠ q') : Disjoint (slot q) (slot q') :=
  Finset.disjoint_left.mpr fun i hi hi' => h (Fin.ext ((mem_slot.mp hi).symm.trans (mem_slot.mp hi')))

theorem rows_cover : Finset.univ.biUnion rows = (Finset.univ : Finset S512x768.Idx) := by
  ext i
  have h : (i 0).val < 512 := (i 0).isLt
  simp only [Finset.mem_biUnion, Finset.mem_univ, true_and, iff_true]
  exact ⟨⟨(i 0).val / 64, by omega⟩, mem_rows.mpr rfl⟩
theorem slot_cover : Finset.univ.biUnion slot = (Finset.univ : Finset S8x64x768.Idx) := by
  ext i
  simp only [Finset.mem_biUnion, Finset.mem_univ, true_and, iff_true]
  exact ⟨⟨(i 0).val, (i 0).isLt⟩, mem_slot.mpr rfl⟩

end Cert.KernelIdealProof

end
-- ==== Proof.Vals.lean ====
/-
# What the buffers hold

Every buffer's final contents as one function of the inputs of all devices, and, for each access of the kernel,
that the value it stores is that function read through the access.
-/
module

public import proofs.«01_k».proof.Proof.Cells

@[expose] public section

noncomputable section

namespace Cert.KernelIdealProof

open Cert.KernelIdeal Cert.KernelIdeal.Gen Cert.Fam

open Idealize.ShloMosaic Idealize.ShloMosaic.TcCoe Idealize.ShloMosaic.ValueIdx

variable {F : FTy → Type} [FloatOps F] [Named F]

/-- One device's five operands. -/
structure Inputs (F : FTy → Type) where
  x : Vec F S2x256x768 .f32
  wq : Vec F S768x512 .f32
  wo : Vec F S512x768 .f32
  wk : Vec F S768x512 .f32
  wv : Vec F S768x512 .f32

variable (I : Inputs F) (J : Fin 8 → Inputs F)

/-! ## One device's partial product -/

abbrev qT : FVec F S512x512 .bf16 := k0_pay3 I.x I.wq
abbrev kT : FVec F S512x512 .bf16 := k0_pay4 I.x I.wk
abbrev vT : FVec F S512x512 .bf16 := k0_pay5 I.x I.wv
abbrev woB : FVec F S512x768 .bf16 := k0_pay2 I.wo

theorem headSlices (h : Fin 8) (b : Fin 2) : S512x512.Slices ![64 * h.val, 256 * b.val] S64x256 :=
  ⟨rfl, fun a => by
    fin_cases a
    · show 64 * h.val + 64 ≤ 512; omega
    · show 256 * b.val + 256 ≤ 512; omega⟩

/-- Head `h` of batch member `b`, from an array of all heads and all tokens. -/
abbrev cut (h : Fin 8) (b : Fin 2) (a : FVec F S512x512 .bf16) : FVec F S64x256 .bf16 :=
  extractStridedSlice S64x256 ![64 * h.val, 256 * b.val] a (headSlices h b)

/-- The attention of one head: the kernel's own operations on the three cuts. -/
abbrev head (h : Fin 8) (b : Fin 2) : FVec F S64x256 .bf16 :=
  k0_pay16 (cut h b (qT I)) (cut h b (kT I)) (cut h b (vT I)) (constant S256x256 .f32 0x00000000#32)

/-- The attention of all heads. -/
def attnAll : FVec F S512x512 .bf16 := fun i =>
  head I ⟨(i 0).val / 64, by have : (i 0).val < 512 := (i 0).isLt; omega⟩ ⟨(i 1).val / 256, by have : (i 1).val < 512 := (i 1).isLt; omega⟩
    (ix2 ⟨(i 0).val % 64, Nat.mod_lt _ (by decide)⟩ ⟨(i 1).val % 256, Nat.mod_lt _ (by decide)⟩)

/-- Its columns of batch member `b`. -/
def attnHalf (b : Fin 2) : FVec F S512x256 .bf16 := fun i =>
  attnAll I (ix2 (i 0) ⟨256 * b.val + (i 1).val, by have : (i 1).val < 256 := (i 1).isLt; omega⟩)

/-- The device's partial product. -/
def castAll : FVec F S512x768 .bf16 := fun i =>
  k0_pay22 (woB I) (attnHalf I ⟨(i 0).val / 256, by have : (i 0).val < 512 := (i 0).isLt; omega⟩)
    (ix2 ⟨(i 0).val % 256, Nat.mod_lt _ (by decide)⟩ (i 1))

/-- The eight parts device `c` adds: slot `q` is its rows of device `q`'s partial product. -/
def rsAll (c : Fin 8) : FVec F S8x64x768 .bf16 := fun i =>
  castAll (J (i 0)) (ix2 ⟨64 * c.val + (i 1).val, by have : (i 1).val < 64 := (i 1).isLt; omega⟩ (i 2))

/-- Their sum. -/
abbrev agSrc (c : Fin 8) : FVec F S64x768 .bf16 := k0_pay40 (rsAll J c)

/-- All devices' sums. -/
def agAll : FVec F S512x768 .bf16 := fun i =>
  agSrc J ⟨(i 0).val / 64, by have : (i 0).val < 512 := (i 0).isLt; omega⟩ (ix2 ⟨(i 0).val % 64, Nat.mod_lt _ (by decide)⟩ (i 1))

/-- The result. -/
def outAll : FVec F S2x256x768 .f32 := fun i =>
  k0_pay42 (agSrc J ⟨4 * (i 0).val + (i 1).val / 64, by
      have : (i 0).val < 2 := (i 0).isLt; have : (i 1).val < 256 := (i 1).isLt; omega⟩)
    (ix3 (0 : Fin 1) ⟨(i 1).val % 64, Nat.mod_lt _ (by decide)⟩ (i 2))

/-! ## The accesses read the final contents -/

/-- Block `(h, b)` of the attention array. -/
theorem attn_read (h : Fin 8) (b : Fin 2) (off : Fin 2 → ℕ) (ho : off = ![64 * h.val, 256 * b.val])
    (inb : ∀ a, off a + S64x256.size a ≤ S512x512.size a) :
    head I h b = (atM.access (Rect.unit (s := S512x512) off S64x256.size inb)).read (Elt F) (attnAll I) := by
  subst ho
  funext y
  have h0 : (y 0).val < 64 := (y 0).isLt
  have h1 : (y 1).val < 256 := (y 1).isLt
  show head I h b y = attnAll I ((Rect.unit (s := S512x512) ![64 * h.val, 256 * b.val] S64x256.size inb).emb y)
  unfold attnAll
  have e0 : ((Rect.unit (s := S512x512) ![64 * h.val, 256 * b.val] S64x256.size inb).emb y 0).val = 64 * h.val + (y 0).val := by
    show 64 * h.val + 1 * (y 0).val = _; omega
  have e1 : ((Rect.unit (s := S512x512) ![64 * h.val, 256 * b.val] S64x256.size inb).emb y 1).val = 256 * b.val + (y 1).val := by
    show 256 * b.val + 1 * (y 1).val = _; omega
  congr 1
  · exact Fin.ext (by simp only [e0]; omega)
  · exact Fin.ext (by simp only [e1]; omega)
  · refine (eq_ix2 y).trans ?_
    congr 1 <;> exact Fin.ext (by simp only [e0, e1]; omega)

/-- The columns of batch member `b`, once the blocks up to and including its own hold the attention. -/
theorem attn_half (b : Fin 2) (off : Fin 2 → ℕ) (ho : off = ![0, 256 * b.val]) (inb : ∀ a, off a + S512x256.size a ≤ S512x512.size a)
    (f : S512x512.Idx → Elt F .bf16) (hf : ∀ i : S512x512.Idx, (i 1).val / 256 = b.val → f i = attnAll I i) :
    atM.view.readAt (Elt F) (Rect.unit (s := S512x512) off S512x256.size inb).toLoadRect f = attnHalf I b := by
  subst ho
  funext y
  have h1 : (y 1).val < 256 := (y 1).isLt
  have e1 : ((Rect.unit (s := S512x512) ![0, 256 * b.val] S512x256.size inb).emb y 1).val = 256 * b.val + (y 1).val := by
    show 256 * b.val + 1 * (y 1).val = _; omega
  refine (hf ((Rect.unit (s := S512x512) ![0, 256 * b.val] S512x256.size inb).emb y) (by rw [e1]; omega)).trans ?_
  unfold attnHalf
  congr 1
  refine (eq_ix2 _).trans ?_
  congr 1
  · exact Fin.ext (by show 0 + 1 * (y 0).val = _; omega)
  · exact Fin.ext e1

/-- The rows of batch member `b` of the partial product. -/
theorem cast_read (b : Fin 2) (off : Fin 2 → ℕ) (ho : off = ![256 * b.val, 0]) (inb : ∀ a, off a + S256x768.size a ≤ S512x768.size a) :
    k0_pay22 (woB I) (attnHalf I b) = (caM.access (Rect.unit (s := S512x768) off S256x768.size inb)).read (Elt F) (castAll I) := by
  subst ho
  funext y
  have h0 : (y 0).val < 256 := (y 0).isLt
  have e0 : ((Rect.unit (s := S512x768) ![256 * b.val, 0] S256x768.size inb).emb y 0).val = 256 * b.val + (y 0).val := by
    show 256 * b.val + 1 * (y 0).val = _; omega
  show _ = castAll I ((Rect.unit (s := S512x768) ![256 * b.val, 0] S256x768.size inb).emb y)
  unfold castAll
  congr 1
  · congr 1; exact Fin.ext (by simp only [e0]; omega)
  · refine (eq_ix2 y).trans ?_
    congr 1
    · exact Fin.ext (by simp only [e0]; omega)
    · exact Fin.ext (by show _ = 0 + 1 * (y 1).val; omega)

/-- A slot of the landed parts with its leading axis dropped, at an index. -/
theorem slot_emb (c : Fin 8) (off : Fin 3 → ℕ) (ho : off = ![c.val, 0, 0]) (inb : ∀ a, off a + S1x64x768.size a ≤ S8x64x768.size a)
    (hs : S1x64x768.Squeezes S64x768) (y : S64x768.Idx) :
    ((rsM.slice (Rect.unit (s := S8x64x768) off S1x64x768.size inb) (fun _ => rfl)).squeeze S64x768 hs).view.emb y = ix3 c (y 0) (y 1) := by
  subst ho
  show (Rect.unit (s := S8x64x768) ![c.val, 0, 0] S1x64x768.size inb).emb (Shape.reshapeEquiv hs.numel_eq y) = _
  rw [Shape.reshapeEquiv_cons_one]
  refine (eq_ix3 _).trans ?_
  congr 1
  · exact Fin.ext (by show 0 + 1 * (y 0).val = _; omega)
  · exact Fin.ext (by show 0 + 1 * (y 1).val = _; omega)

/-- A run of 64 rows, at an index. -/
theorem rows_emb (t : Fin 8) (off : Fin 2 → ℕ) (ho : off = ![64 * t.val, 0]) (inb : ∀ a, off a + S64x768.size a ≤ S512x768.size a) (y : S64x768.Idx) :
    (Rect.unit (s := S512x768) off S64x768.size inb).emb y
      = ix2 ⟨64 * t.val + (y 0).val, by have : (y 0).val < 64 := (y 0).isLt; omega⟩ (y 1) := by
  subst ho
  refine (eq_ix2 _).trans ?_
  congr 1
  · exact Fin.ext (by show 64 * t.val + 1 * (y 0).val = 64 * t.val + (y 0).val; omega)
  · exact Fin.ext (by show 0 + 1 * (y 1).val = _; omega)

/-- What device `c` copies to device `t` is slot `c` of what `t` is to add. -/
theorem rs_copy (c t : Fin 8) (offS : Fin 2 → ℕ) (hoS : offS = ![64 * t.val, 0]) (inbS : ∀ a, offS a + S64x768.size a ≤ S512x768.size a)
    (off : Fin 3 → ℕ) (ho : off = ![c.val, 0, 0]) (inb : ∀ a, off a + S1x64x768.size a ≤ S8x64x768.size a) (hs : S1x64x768.Squeezes S64x768) :
    (caM.slice (Rect.unit (s := S512x768) offS S64x768.size inbS) (fun _ => rfl)).view.read (Elt F) (castAll (J c))
      = ((rsM.slice (Rect.unit (s := S8x64x768) off S1x64x768.size inb) (fun _ => rfl)).squeeze S64x768 hs).view.read (Elt F) (rsAll J t) := by
  funext y
  refine (congrArg (castAll (J c)) (rows_emb t offS hoS inbS y)).trans (Eq.trans ?_ (congrArg (rsAll J t) (slot_emb c off ho inb hs y)).symm)
  rfl

/-- The part device `c` keeps of its own partial product. -/
theorem rs_own (c : Fin 8) (offS : Fin 2 → ℕ) (hoS : offS = ![64 * c.val, 0]) (inbS : ∀ a, offS a + S64x768.size a ≤ S512x768.size a)
    (off : Fin 3 → ℕ) (ho : off = ![c.val, 0, 0]) (inb : ∀ a, off a + S1x64x768.size a ≤ S8x64x768.size a) :
    k0_pay39 (caM.view.readAt (Elt F) (Rect.unit (s := S512x768) offS S64x768.size inbS).toLoadRect (castAll (J c)))
      = (rsM.access (Rect.unit (s := S8x64x768) off S1x64x768.size inb)).read (Elt F) (rsAll J c) := by
  subst ho
  funext y
  have h0 : (y 0).val = 0 := Nat.lt_one_iff.mp (y 0).isLt
  show castAll (J c) ((Rect.unit (s := S512x768) offS S64x768.size inbS).emb (Shape.reshapeEquiv shapeCasts_S64x768_S1x64x768 y))
    = rsAll J c ((Rect.unit (s := S8x64x768) ![c.val, 0, 0] S1x64x768.size inb).emb y)
  rw [Shape.reshapeEquiv_eq_of_rowMajor (s := S64x768) (s' := S1x64x768) shapeCasts_S64x768_S1x64x768 (x := y) (y := ix2 (y 1) (y 2)) (by
      refine (Shape.rowMajor_val_two (d := S64x768.size) _).trans (Eq.trans ?_ (Shape.rowMajor_val_three (d := S1x64x768.size) y).symm)
      show (y 1).val * 768 + (y 2).val = ((y 0).val * 64 + (y 1).val) * 768 + (y 2).val
      rw [h0]; omega), rows_emb c offS hoS inbS]
  unfold rsAll
  congr 1
  · exact congrArg J (Fin.ext (by show c.val = c.val + 1 * (y 0).val; omega))
  · congr 1
    · exact Fin.ext (by show 64 * c.val + (y 1).val = 64 * c.val + (0 + 1 * (y 1).val); omega)
    · exact Fin.ext (by show (y 2).val = 0 + 1 * (y 2).val; omega)

/-- Rows `64 q` on of all devices' sums are device `q`'s sum. -/
theorem ag_read (q : Fin 8) (off : Fin 2 → ℕ) (ho : off = ![64 * q.val, 0]) (inb : ∀ a, off a + S64x768.size a ≤ S512x768.size a) :
    agSrc J q = (agM.access (Rect.unit (s := S512x768) off S64x768.size inb)).read (Elt F) (agAll J) := by
  funext y
  have h0 : (y 0).val < 64 := (y 0).isLt
  refine Eq.trans ?_ (congrArg (agAll J) (rows_emb q off ho inb y)).symm
  unfold agAll
  congr 1
  · congr 2
    exact Fin.ext (by show q.val = (64 * q.val + (y 0).val) / 64; omega)
  · refine (eq_ix2 y).trans ?_
    congr 1
    exact Fin.ext (by show (y 0).val = (64 * q.val + (y 0).val) % 64; omega)

/-- The kernel casts the sum to its own shape before it writes it among all devices' sums. -/
theorem ag_own (w : FVec F S64x768 .bf16) : k0_pay41 w = w := by
  funext y
  exact congrArg w (Shape.reshapeEquiv_self _ y)

/-- The result's part from device `q`'s sum. -/
theorem out_read (q : Fin 8) (off : Fin 3 → ℕ) (ho : off = ![q.val / 4, 64 * (q.val % 4), 0]) (inb : ∀ a, off a + S1x64x768.size a ≤ S2x256x768.size a) :
    k0_pay42 (agSrc J q) = (outM.access (Rect.unit (s := S2x256x768) off S1x64x768.size inb)).read (Elt F) (outAll J) := by
  subst ho
  funext y
  have h0 : (y 0).val = 0 := Nat.lt_one_iff.mp (y 0).isLt
  have h1 : (y 1).val < 64 := (y 1).isLt
  show _ = outAll J ((Rect.unit (s := S2x256x768) ![q.val / 4, 64 * (q.val % 4), 0] S1x64x768.size inb).emb y)
  have e0 : ((Rect.unit (s := S2x256x768) ![q.val / 4, 64 * (q.val % 4), 0] S1x64x768.size inb).emb y 0).val = q.val / 4 := by
    show q.val / 4 + 1 * (y 0).val = _; omega
  have e1 : ((Rect.unit (s := S2x256x768) ![q.val / 4, 64 * (q.val % 4), 0] S1x64x768.size inb).emb y 1).val = 64 * (q.val % 4) + (y 1).val := by
    show 64 * (q.val % 4) + 1 * (y 1).val = _; omega
  unfold outAll
  congr 1
  · congr 2; exact Fin.ext (by simp only [e0, e1]; omega)
  · refine (eq_ix3 y).trans ?_
    congr 1
    · exact Fin.ext h0
    · exact Fin.ext (by simp only [e1]; omega)
    · exact Fin.ext (by show _ = 0 + 1 * (y 2).val; omega)

end Cert.KernelIdealProof

end
-- ==== Proof.Proto.lean ====
/-
# The protocol

Every device signals every other's barrier semaphore, handing over the slot and the rows the other is to write.
After its own wait there, device `c` copies rows `64 t` of its partial product to slot `c` of device `t`, adds the
eight parts that reached it, and copies the sum to rows `64 c` of every other device. Each copy raises one semaphore
at the sender and one at the receiver. A barrier semaphore has one round with a duty for every other device, a copy's
semaphore one round with a single duty, and none for the copy a device would make to itself.
-/
module

public import proofs.«01_k».proof.Proof.Vals

@[expose] public section

noncomputable section

namespace Cert.KernelIdealProof

open Cert.KernelIdeal Cert.KernelIdeal.Gen Cert.Fam

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra: the staging pipeline's and the protocol's, the latter with a device as duty name -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (J : Dev nD → Inputs F)

/-! ## The parts of the buffers, held -/

/-- Rows `64 q` of device `c`'s partial product. -/
def caPts (c : Dev nD) (q : Fin 8) (f : FVec F S512x768 .bf16) : sProp 𝕄 :=
  caM.view.loc (c : Thread nD τ) ↦[rows q]{fullShare} (f : Buf (Elt F) (caM.view.loc (c : Thread nD τ)))
/-- Slot `q` of device `c`'s landed parts. -/
def rsPts (c : Dev nD) (q : Fin 8) (f : FVec F S8x64x768 .bf16) : sProp 𝕄 :=
  rsM.view.loc (c : Thread nD τ) ↦[slot q]{fullShare} (f : Buf (Elt F) (rsM.view.loc (c : Thread nD τ)))
/-- Rows `64 q` of device `c`'s copy of all sums. -/
def agPts (c : Dev nD) (q : Fin 8) (f : FVec F S512x768 .bf16) : sProp 𝕄 :=
  agM.view.loc (c : Thread nD τ) ↦[rows q]{fullShare} (f : Buf (Elt F) (agM.view.loc (c : Thread nD τ)))
/-- The share of device `c`'s sum that its copy to `q` reads. -/
def asTok (c : Dev nD) (q : Fin 8) (f : FVec F S64x768 .bf16) : sProp 𝕄 :=
  asM.view.loc (c : Thread nD τ) ↦[Finset.univ]{Transfers.shareTok fullShare 8 q} (f : Buf (Elt F) (asM.view.loc (c : Thread nD τ)))

instance caPts_storable (c : Dev nD) (q f) : BI.Storable (upEmb : UEmb _ 𝕄) (caPts (F := F) c q f) := by unfold caPts; infer_instance
instance rsPts_storable (c : Dev nD) (q f) : BI.Storable (upEmb : UEmb _ 𝕄) (rsPts (F := F) c q f) := by unfold rsPts; infer_instance
instance agPts_storable (c : Dev nD) (q f) : BI.Storable (upEmb : UEmb _ 𝕄) (agPts (F := F) c q f) := by unfold agPts; infer_instance
instance asTok_storable (c : Dev nD) (q f) : BI.Storable (upEmb : UEmb _ 𝕄) (asTok (F := F) c q f) := by unfold asTok; infer_instance

/-! ## The schedule -/

/-- What device `p`'s signal hands device `c`: what `c`'s two copies to `p` write. -/
def barPay (c p : Fin 8) : sProp 𝕄 := iprop((∃ f, rsPts (F := F) p c f) ∗ ∃ f, agPts (F := F) p c f)

/-- What entry `q` of semaphore row `k` hands device `c`. -/
def pay (k : Fin 4) (q : Fin 8) (c : Dev nD) : sProp 𝕄 :=
  match k with
  | 0 => caPts c q (castAll (J c))
  | 1 => rsPts c q (rsAll J c)
  | 2 => asTok c q (agSrc J c)
  | 3 => agPts c q (agAll J)

theorem pay_0 (q : Fin 8) (c : Dev nD) : pay J 0 q c = caPts c q (castAll (J c)) := rfl
theorem pay_1 (q : Fin 8) (c : Dev nD) : pay J 1 q c = rsPts c q (rsAll J c) := rfl
theorem pay_2 (q : Fin 8) (c : Dev nD) : pay J 2 q c = asTok c q (agSrc J c) := rfl
theorem pay_3 (q : Fin 8) (c : Dev nD) : pay J 3 q c = agPts c q (agAll J) := rfl

instance barPay_storable (c p) : BI.Storable (upEmb : UEmb _ 𝕄) (barPay (F := F) c p) := by unfold barPay; infer_instance
instance pay_storable (k q) (c : Dev nD) : BI.Storable (upEmb : UEmb _ 𝕄) (pay J k q c) := by
  unfold pay; fin_cases k <;> infer_instance

/-- The row and entry of a DMA semaphore of the protocol. -/
def rowOf (s : DmaSem sig) : Fin 4 := ⟨(s.val - 6) / 8 % 4, Nat.mod_lt _ (by decide)⟩
def entryOf (s : DmaSem sig) : Fin 8 := ⟨(s.val - 6) % 8, Nat.mod_lt _ (by decide)⟩

theorem rowOf_dsem (k : Fin 4) (q : Fin 8) : rowOf (dsem k q) = k := by
  have := k.isLt; have := q.isLt; exact Fin.ext (by show (6 + 8 * k.val + q.val - 6) / 8 % 4 = k.val; omega)
theorem entryOf_dsem (k : Fin 4) (q : Fin 8) : entryOf (dsem k q) = q := by
  have := q.isLt; exact Fin.ext (by show (6 + 8 * k.val + q.val - 6) % 8 = q.val; omega)

def sched : Rounds.Schedule (GSem nD τ sig) (Fin 8) 𝕄 where
  duties g r := if r = 0 ∧ g.1.2 = .tc then
      (match g.2 with
        | .reg s => Finset.univ.erase g.1.1
        | .dma s => if 6 ≤ s.val ∧ entryOf s ≠ g.1.1 then {0} else ∅)
    else ∅
  unitless _ := False
  amount g _ _ := match g.2 with | .reg _ => 1 | .dma _ => N
  payload g _ d := match g.2 with | .reg _ => barPay g.1.1 d | .dma s => pay J (rowOf s) (entryOf s) g.1.1
  amount_pos g _ _ _ := by
    rcases g with ⟨t, s | s⟩
    · exact Nat.one_pos
    · exact N_pos

instance sched_payload_storable (g : GSem nD τ sig) (r : ℕ) (d : Fin 8) :
    BI.Storable (upEmb : UEmb _ 𝕄) ((sched J).payload g r d) := by
  rcases g with ⟨t, s | s⟩
  · exact barPay_storable _ _
  · exact pay_storable J _ _ _

theorem duties_zero (g : GSem nD τ sig) (h : g.1.2 = .tc) : (sched J).duties g 0 =
    (match g.2 with
      | .reg s => Finset.univ.erase g.1.1
      | .dma s => if 6 ≤ s.val ∧ entryOf s ≠ g.1.1 then {0} else ∅) := if_pos ⟨rfl, h⟩
theorem duties_bar (c : Dev nD) : (sched J).duties (barCell c) 0 = Finset.univ.erase c := duties_zero J (barCell c) rfl
theorem duties_x (k : Fin 4) (q : Fin 8) (c : Dev nD) (h : q ≠ c) : (sched J).duties (xCell k q c) 0 = {0} := by
  refine (duties_zero J (xCell k q c) rfl).trans (if_pos ⟨?_, ?_⟩)
  · show 6 ≤ 6 + 8 * k.val + q.val; omega
  · rw [entryOf_dsem]; exact h
theorem duties_x_self (k : Fin 4) (c : Dev nD) (r : ℕ) : (sched J).duties (xCell k c c) r = ∅ := by
  dsimp only [sched]
  split
  · exact if_neg fun h => h.2 (entryOf_dsem k c)
  · rfl
theorem duties_later (g : GSem nD τ sig) : ∀ r, 1 ≤ r → (sched J).duties g r = ∅ :=
  fun r hr => if_neg fun h => by omega

theorem amount_bar (c : Dev nD) (d : Fin 8) : (sched J).amount (barCell c) 0 d = 1 := rfl
theorem amount_x (k q) (c : Dev nD) (d : Fin 8) : (sched J).amount (xCell k q c) 0 d = N := rfl
theorem payload_bar (c : Dev nD) (d : Fin 8) : (sched J).payload (barCell c) 0 d = barPay c d := rfl
theorem payload_x (k q) (c : Dev nD) (d : Fin 8) : (sched J).payload (xCell k q c) 0 d = pay J k q c := by
  show pay J (rowOf (dsem k q)) (entryOf (dsem k q)) c = _
  rw [rowOf_dsem, entryOf_dsem]

theorem expect_bar (c : Dev nD) : (sched J).expect (barCell c) 0 = 7 := by
  unfold Schedule.expect Schedule.amountOf
  rw [duties_bar, Finset.sum_congr rfl fun d _ => amount_bar J c d, Finset.sum_const, Finset.card_erase_of_mem (Finset.mem_univ _)]
  rfl
theorem expect_x (k q) (c : Dev nD) (h : q ≠ c) : (sched J).expect (xCell k q c) 0 = N := by
  unfold Schedule.expect Schedule.amountOf
  rw [duties_x J k q c h, Finset.sum_singleton, amount_x]

theorem rest_bar (c : Dev nD) :
    bigSep ((sched J).duties (barCell c) 0 \ ∅) (fun d => (sched J).payload (barCell c) 0 d) = bigSep (Finset.univ.erase c) (barPay (F := F) c) := by
  rw [Finset.sdiff_empty, duties_bar]; rfl
theorem rest_x (k q) (c : Dev nD) (h : q ≠ c) :
    bigSep ((sched J).duties (xCell k q c) 0 \ ∅) (fun d => (sched J).payload (xCell k q c) 0 d) = pay J k q c := by
  rw [Finset.sdiff_empty, duties_x J k q c h, bigSep_singleton, payload_x]

/-! ## What a device owes, and the order of the waits -/

/-- The unit for the `d`-th device after `c`; nothing for itself. -/
def oBar (c : Dev nD) (d : Fin 8) : CellTallies nD τ sig Unit := if d = 0 then 0 else tallyAt (barCell (c + d)) () 1
/-- The arrival of `c`'s copy in row `k` at device `t`. -/
def oX (k : Fin 4) (c : Dev nD) (t : Fin 8) : CellTallies nD τ sig Unit := if t = c then 0 else tallyAt (xCell k c t) () N

def O₀ (c : Dev nD) : CellTallies nD τ sig Unit := rest (oX 3 c) 0 + rest (oX 1 c) 0 + rest (oBar c) 0

def L (g : GSem nD τ sig) : Finset Unit := if g.1.2 = .tc then {()} else ∅
/-- The barrier first, then the parts' arrivals, then the sums' arrivals; whatever nobody owes below them. -/
def lv (g : GSem nD τ sig) (_ : Unit) : ℕ :=
  match g.2 with
  | .reg _ => 1
  | .dma s => if 6 ≤ s.val then (match rowOf s with | 1 => 2 | 3 => 3 | _ => 0) else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_x (k : Fin 4) (q : Fin 8) (c : Dev nD) (u : Unit) : lv (xCell k q c) u = (match k with | 1 => 2 | 3 => 3 | _ => 0) := by
  have h : 6 ≤ (dsem k q).val := by show 6 ≤ 6 + 8 * k.val + q.val; omega
  show (if 6 ≤ (dsem k q).val then _ else 0) = _
  rw [if_pos h, rowOf_dsem]
theorem lv_stage (c : Dev nD) (s : DmaSem sig) (h : s.val < 6) (u : Unit) : lv ((c : Thread nD τ), .dma s) u = 0 := if_neg (Nat.not_le.2 h)

/-- A sum of debts is positive only where one of them is. -/
theorem rest_pos {f : Fin 8 → CellTallies nD τ sig Unit} {n : ℕ} {g : GSem nD τ sig} {u : Unit} (h : 0 < rest f n g u) :
    ∃ t, 0 < f t g u := by
  by_contra hn
  refine Nat.lt_irrefl 0 (lt_of_lt_of_eq h ?_)
  unfold rest
  rw [Finset.sum_apply, Finsupp.finsetSum_apply]
  exact Finset.sum_eq_zero fun t _ => Nat.eq_zero_of_not_pos fun h' => hn ⟨t, h'⟩

theorem oX_pos {k : Fin 4} {c : Dev nD} {t : Fin 8} {g : GSem nD τ sig} {u : Unit} (h : 0 < oX k c t g u) : g = xCell k c t := by
  unfold oX at h
  split at h
  · exact absurd h (Nat.lt_irrefl 0)
  · rw [tallyAt_apply] at h
    by_contra hn
    rw [if_neg fun h' => hn h'.1] at h
    exact Nat.lt_irrefl 0 h

theorem oBar_pos {c : Dev nD} {d : Fin 8} {g : GSem nD τ sig} {u : Unit} (h : 0 < oBar c d g u) : g = barCell (c + d) := by
  unfold oBar at h
  split at h
  · exact absurd h (Nat.lt_irrefl 0)
  · rw [tallyAt_apply] at h
    by_contra hn
    rw [if_neg fun h' => hn h'.1] at h
    exact Nat.lt_irrefl 0 h

/-- A wait at a cell of level at most `n` is allowed while everything owed is on cells above `n`. -/
theorem mayWait (c : Dev nD) (sm : SemLoc sig) (n : ℕ) (hn : ∀ u, lv ((c : Thread nD τ), sm) u ≤ n) (O : CellTallies nD τ sig Unit)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hn _)
    (fun g u hg => (hO g u hg).2)

theorem above_x {k : Fin 4} {c : Dev nD} {n m : ℕ} (hk : n < (match k with | 1 => 2 | 3 => 3 | _ => 0)) (g : GSem nD τ sig) (u : Unit)
    (h : 0 < rest (oX k c) m g u) : g.1.2 = .tc ∧ n < lv g u := by
  obtain ⟨t, ht⟩ := rest_pos h
  rw [oX_pos ht]
  exact ⟨rfl, lt_of_lt_of_eq hk (lv_x k c t u).symm⟩

theorem above_add {O O' : CellTallies nD τ sig Unit} {n : ℕ} (h : ∀ g u, 0 < O g u → g.1.2 = .tc ∧ n < lv g u)
    (h' : ∀ g u, 0 < O' g u → g.1.2 = .tc ∧ n < lv g u) (g : GSem nD τ sig) (u : Unit) (hg : 0 < (O + O') g u) : g.1.2 = .tc ∧ n < lv g u := by
  rw [Pi.add_apply, Finsupp.add_apply] at hg
  rcases Nat.eq_zero_or_pos (O g u) with h0 | h0
  · exact h' g u (by omega)
  · exact h g u h0

theorem above_bar {c : Dev nD} {m : ℕ} (g : GSem nD τ sig) (u : Unit) (h : 0 < rest (oBar c) m g u) : g.1.2 = .tc ∧ 0 < lv g u := by
  obtain ⟨t, ht⟩ := rest_pos h
  rw [oBar_pos ht]
  exact ⟨rfl, Nat.one_pos⟩

/-- The staging buffers' waits. -/
theorem mayWait_stage (c : Dev nD) (s : DmaSem sig) (h : s.val < 6) (O : CellTallies nD τ sig Unit) (hO : O = O₀ c ∨ O = 0) :
    (levAts L lv : sProp 𝕄) ⊢ MayWait (c : Thread nD τ) (.dma s) () O := by
  refine mayWait c (.dma s) 0 (fun u => (lv_stage c s h u).le) O ?_
  rcases hO with rfl | rfl
  · exact above_add (above_add (above_x (by decide)) (above_x (by decide))) above_bar
  · exact fun g u hg => absurd hg (Nat.lt_irrefl 0)

/-! ## The cells of all devices -/

/-- A device's cells: its barrier and its 32 DMA semaphores. -/
abbrev CI : Type := Option (Fin 4 × Fin 8)
abbrev kcell (ck : Dev nD × CI) : GSem nD τ sig := match ck.2 with | none => barCell ck.1 | some (k, q) => xCell k q ck.1

/-- All cells' invariants, and that all have reached round 0. -/
def records (K : Dev nD × CI → ℕ) : sProp 𝕄 :=
  iprop(bigSep Finset.univ (fun ck => cellInv ER (sched J) (K ck) (kcell ck)) ∗ bigSep Finset.univ (fun ck => reached ER (kcell ck) 0))

instance records_persistent (K) : BI.Persistent (records J K) := by unfold records; infer_instance

theorem records_at (K) (ck : Dev nD × CI) :
    (records J K : sProp 𝕄) ⊢ iprop(cellInv ER (sched J) (K ck) (kcell ck) ∗ reached ER (kcell ck) 0) := by
  unfold records
  exact BIClass.sep_mono (BI.bigSep_elim (Finset.mem_univ ck)) (BI.bigSep_elim (Finset.mem_univ ck))

end Cert.KernelIdealProof

end
-- ==== Proof.Steps.lean ====
/-
# One step of the body

A rule for each kind of step the body takes: a signal, the wait at the barrier, a guarded copy, a guarded wait, and a
load or store of a part of a buffer whose parts are filled in order.
-/
module

public import proofs.«01_k».proof.Proof.Proto
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen Cert.Fam

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- The body's run on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited on. -/
def owesE (c : Dev nD) (O : CellTallies nD τ sig Unit) : sProp 𝕄 := iprop(∃ W : Waits sig Unit, owes (c : Thread nD τ) O W)

variable (J : Dev nD → Inputs F) (K : Dev nD × CI → ℕ)

/-! ## Signals and the barrier wait -/

theorem step_signal (c n d : Dev nD) (hd : d ≠ 0) (hn : n = c + d) (O : CellTallies nD τ sig Unit)
    {α : Type} {Q : α → sProp 𝕄} {k : PUnit → Prog (TpuEff nD τ sig (Elt F) Λ₀ .tc) α} {k' : ℕ} (hk : k' = 1) :
    iprop(records J K ∗ dutyTok ER (barCell (c + d)) 0 c ∗ barPay (c + d) c ∗ owesE c (O + oBar c d))
      ⊢ iprop((owesE c O -∗ run c (k ⟨⟩) Q) -∗ run c (.op (.semSignal (n : Thread nD τ) barS k') k) Q) := by
  subst hn hk
  unfold owesE
  rw [show oBar c d = tallyAt (barCell (c + d)) () 1 from if_neg hd]
  have hmem : c ∈ (sched J).duties (barCell (c + d)) 0 := by
    rw [duties_bar, Finset.mem_erase]; exact ⟨fun h => hd (by simpa using h.symm), Finset.mem_univ _⟩
  iintro ⟨#Hr, Ht, Hp, ⟨%W, HO⟩⟩ Hk
  ihave #H := (records_at J K (c + d, none)) $$ Hr
  icases H with ⟨#Hi, #Hreach⟩
  iapply (Rounds.wp_signal 𝒱₀ ER (sched J) (c : Thread nD τ) none (dst := ((c + d : Dev nD) : Thread nD τ)) (κ := K (c + d, none))
    (d := c) hmem (amount_bar J (c + d) c) () O rfl) $$ [HO Ht Hp]
  · isplitr; · iexact Hi
    isplitl [HO]; · iexact HO
    isplitl [Ht]; · iexact Ht
    isplitl [Hp]; · rw [payload_bar]; iexact Hp
    iexact Hreach
  iintro HO
  iapply Hk
  iexists W; iexact HO

theorem step_barrier (c : Dev nD) (O : CellTallies nD τ sig Unit) (hO : ∀ g u, 0 < O g u → g.1.2 = .tc ∧ 1 < lv g u)
    {α : Type} {Q : α → sProp 𝕄} {k : PUnit → Prog (TpuEff nD τ sig (Elt F) Λ₀ .tc) α} {k' : ℕ} (hk : k' = 7) :
    iprop(records J K ∗ levAts L lv ∗ cred (tallyAt (barCell c) () 7) ∗ atPos ER (barCell c) 0 ∅ 0 ∗ owesE c O)
      ⊢ iprop((bigSep (Finset.univ.erase c) (barPay (F := F) c) ∗ semVal (barCell c) 0 ∗ owesE c O -∗ run c (k ⟨⟩) Q)
        -∗ run c (.op (.semWait barS k') k) Q) := by
  subst hk
  unfold owesE
  iintro ⟨#Hr, #Hlev, Hc, Hat, ⟨%W, HO⟩⟩ Hk
  ihave #H := (records_at J K (c, none)) $$ Hr
  icases H with ⟨#Hi, #Hreach⟩
  iapply (Rounds.wp_wait_rest_token 𝒱₀ ER (sched J) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO Hat]
  · isplitr; · iexact Hi
    isplitl [Hc]; · iexact Hc
    isplitl [HO]; · iexact HO
    isplitr; · iapply (mayWait c (.reg barS) 1 (fun u => (lv_bar c u).le) O hO); iexact Hlev
    iexact Hat
  iintro ⟨HO, Hat, -, Hpay⟩
  imod (Rounds.cell_close ER (sched J) (Set.mem_univ (K (c, none))) (fun h => h) (R := 0 + 1) (duties_later J (barCell c))) $$ [Hat] with Hz
  · isplitr; · iexact Hi
    iexact Hat
  iapply Hk
  isplitl [Hpay]; · iapply (Entails.of_eq (rest_bar J c)); iexact Hpay
  isplitl [Hz]; · iexact Hz
  iexists _; iexact HO

/-! ## Waits at the DMA semaphores -/

theorem step_wait (c : Dev nD) (kk : Fin 4) (q : Fin 8) (hq : q ≠ c) (O : CellTallies nD τ sig Unit)
    (hO : ∀ g u, 0 < O g u → g.1.2 = .tc ∧ (match kk with | 1 => 2 | 3 => 3 | _ => 0) < lv g u)
    {sm : DmaSem sig} (hsm : sm = dsem kk q) {s s' : Shape} {e e' : EltTy} {sp sp' : Space} {src : Memref sig .tc sp s e} {dst : Memref sig .tc sp' s' e'} (hN : dst.view.dmaCredit = N)
    {h1 h2} {α : Type} {Q : α → sProp 𝕄} {k : PUnit → Prog (TpuEff nD τ sig (Elt F) Λ₀ .tc) α} :
    iprop(records J K ∗ levAts L lv ∗ cred (tallyAt (xCell kk q c) () N) ∗ atPos ER (xCell kk q c) 0 ∅ 0 ∗ owesE c O)
      ⊢ iprop((pay J kk q c ∗ semVal (xCell kk q c) 0 ∗ owesE c O -∗ run c (k ⟨⟩) Q)
        -∗ run c (.op (.waitDma2 sm src dst h1 h2) k) Q) := by
  subst hsm
  unfold owesE
  iintro ⟨#Hr, #Hlev, Hc, Hat, ⟨%W, HO⟩⟩ Hk
  ihave #H := (records_at J K (c, some (kk, q))) $$ Hr
  icases H with ⟨#Hi, #Hreach⟩
  iapply (Rounds.wp_wait_rest_token 𝒱₀ ER (sched J) (c : Thread nD τ) none (κ := K (c, some (kk, q)))
      (wpE_waitDma2_eq 𝒱₀ (c : Thread nD τ) none Set.univ) (Set.mem_univ _) () (O := O) (W := W) (R := 0) (m := 0) (T := ∅)
      (by rw [expect_x J kk q c hq, hN, Nat.zero_add])) $$ [Hc HO Hat]
  · isplitr; · iexact Hi
    isplitl [Hc]; · rw [hN]; iexact Hc
    isplitl [HO]; · iexact HO
    isplitr; · iapply (mayWait c (.dma (dsem kk q)) _ (fun u => (lv_x kk q c u).le) O hO); iexact Hlev
    iexact Hat
  iintro ⟨HO, Hat, -, Hpay⟩
  imod (Rounds.cell_close ER (sched J) (Set.mem_univ (K (c, some (kk, q)))) (fun h => h) (R := 0 + 1) (duties_later J (xCell kk q c))) $$ [Hat] with Hz
  · isplitr; · iexact Hi
    iexact Hat
  iapply Hk
  isplitl [Hpay]; · iapply (Entails.of_eq (rest_x J kk q c hq)); iexact Hpay
  isplitl [Hz]; · iexact Hz
  iexists _; iexact HO

/-- A device's cell for a copy to itself is not used, so its counter is zero from the start. -/
theorem step_idle (c : Dev nD) (kk : Fin 4) {P : sProp 𝕄} :
    iprop(records J K ∗ atPos ER (xCell kk c c) 0 ∅ 0 ∗ (semVal (xCell kk c c) 0 -∗ |={Set.univ}=> P)) ⊢ iprop(|={Set.univ}=> P) := by
  iintro ⟨#Hr, Hat, Hk⟩
  ihave #H := (records_at J K (c, some (kk, c))) $$ Hr
  icases H with ⟨#Hi, #Hreach⟩
  imod (Rounds.cell_close ER (sched J) (Set.mem_univ (K (c, some (kk, c)))) (fun h => h) (R := 0) (fun r _ => duties_x_self J kk c r)) $$ [Hat] with Hz
  · isplitr; · iexact Hi
    iexact Hat
  iapply Hk; iexact Hz

/-! ## Copies -/

theorem step_copy (c t n : Dev nD) (hn : n = t) (htc : t ≠ c) (ks kr : Fin 4) (O : CellTallies nD τ sig Unit)
    {s : Shape} {src : Memref sig .tc .vmem s .bf16} {dst : Memref sig (Dev.tc n : Thread nD τ).2.kind .vmem s .bf16} {hsc : dst.view.ref.isScScratch = false}
    {sS sR : DmaSem sig} (hS : sS = dsem ks t) (hR : sR = dsem kr c)
    {hsrc : src.view.WordExact} {hdst : dst.view.WordExact}
    {hsem : DmaTarget.Typed .vmem (.dma sR) (.remote (Dev.tc n : Thread nD τ) dst (.dma sS) hsc)}
    (q : PosShare TreeShare) (fs : Buf (Elt F) (src.view.loc (c : Thread nD τ))) (fd : Buf (Elt F) (dst.view.loc (n : Thread nD τ)))
    (hN : dst.view.amount (.dma sR) = N)
    (hs : iprop(src.view.loc (c : Thread nD τ) ↦[src.view.set]{q} fs) ⊢ pay J ks t c)
    (hd : iprop(dst.view.loc (n : Thread nD τ) ↦[dst.view.set]{fullShare} (dst.view.write (Elt F) fd (src.view.read (Elt F) fs) Finset.univ)) ⊢ pay J kr c t)
    {α : Type} {Q : α → sProp 𝕄} {k : PUnit → Prog (TpuEff nD τ sig (Elt F) Λ₀ .tc) α} :
    iprop(records J K ∗ (src.view.loc (c : Thread nD τ) ↦[src.view.set]{q} fs) ∗ (dst.view.loc (n : Thread nD τ) ↦[dst.view.set]{fullShare} fd)
        ∗ owesE c (O + tallyAt (xCell kr c t) () N) ∗ dutyTok ER (xCell ks t c) 0 0 ∗ dutyTok ER (xCell kr c t) 0 0)
      ⊢ iprop((cred (tallyAt (xCell ks t c) () N) ∗ owesE c O -∗ run c (k ⟨⟩) Q)
        -∗ run c (.op (.enqueueDma src (.remote (Dev.tc n : Thread nD τ) dst (.dma sS) hsc) (.dma sR) hsrc hdst hsem) k) Q) := by
  subst hn hS hR
  unfold owesE
  iintro ⟨#Hr, Hs, Hd, ⟨%W, HO⟩, Ht, Ht'⟩ Hk
  ihave #H := (records_at J K (c, some (ks, n))) $$ Hr
  icases H with ⟨#Hi, #Hreach⟩
  ihave #H' := (records_at J K (n, some (kr, c))) $$ Hr
  icases H' with ⟨#Hi', #Hreach'⟩
  iapply (Rounds.wp_send_pointsTo 𝒱₀ ER (sched J) (c : Thread nD τ) none (κ₁ := K (c, some (ks, n))) (κ₂ := K (n, some (kr, c)))
    (r₁ := 0) (r₂ := 0) (d₁ := 0) (d₂ := 0) (fd := fd)
    (by rw [duties_x J ks n c htc]; exact Finset.mem_singleton_self _) (by rw [duties_x J kr c n (Ne.symm htc)]; exact Finset.mem_singleton_self _)
    () () N hN (amount_x J ks n c 0) (amount_x J kr c n 0) O rfl (W := W)
    (by rw [payload_x]; exact hs) (by rw [payload_x]; exact hd)) $$ [Hs Hd HO Ht Ht']
  · isplitr; · iexact Hi
    isplitr; · iexact Hi'
    isplitl [Hs]; · iexact Hs
    isplitl [Hd]; · iexact Hd
    isplitl [HO]; · iexact HO
    isplitl [Ht]; · iexact Ht
    isplitr; · iexact Hreach
    isplitl [Ht']; · iexact Ht'
    iexact Hreach'
  iintro ⟨Hc, HO⟩
  iapply Hk
  isplitl [Hc]; · iexact Hc
  iexists W; iexact HO

end Cert.KernelIdealProof

end
-- ==== Proof.Blocks.lean ====
/-
# Guarded copies and waits, and buffers filled in order

The body guards every copy and every wait by whether the other device differs from this one. A guarded step takes
member `t` of a family of facts that is empty at the device itself, and leaves the same member of another.
-/
module

public import proofs.«01_k».proof.Proof.Steps

@[expose] public section

noncomputable section

namespace Cert.KernelIdealProof

open Cert.KernelIdeal Cert.KernelIdeal.Gen Cert.Fam

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (J : Dev nD → Inputs F) (K : Dev nD × CI → ℕ)

/-! ## Guards -/

/-- A step guarded by `t ≠ c`: taken with its member of the families, or passed where both are empty. -/
theorem run_guard (c : Dev nD) (t : Fin 8) {cond : Prop} [Decidable cond] (hc : cond ↔ t ≠ c) {α : Type} {Q : α → sProp 𝕄}
    {k : Prog (TpuEff nD τ sig (Elt F) Λ₀ .tc) α} {th : cond → Prog (TpuEff nD τ sig (Elt F) Λ₀ .tc) α} {P : sProp 𝕄}
    (hth : ∀ h : cond, t ≠ c → P ⊢ run c (th h) Q) (hel : t = c → P ⊢ run c k Q) :
    P ⊢ run c (dite cond th (fun _ => k)) Q := by
  by_cases h : cond
  · rw [dif_pos h]; exact hth h (hc.mp h)
  · rw [dif_neg h]; exact hel (not_not.mp fun h' => h (hc.mpr h'))

/-- The credit of entry `q` of row `k`. -/
def credX (k : Fin 4) (c : Dev nD) (q : Fin 8) : sProp 𝕄 := cred (tallyAt (xCell k q c) () N)

/-- After a copy on row `k` is issued: the part kept at the device itself, the credit for it at any other. -/
def sent (k : Fin 4) (c : Dev nD) (q : Fin 8) : sProp 𝕄 := iprop(only c (fun q => pay J k q c) q ∗ off c (credX (F := F) k c) q)

/-- Opening one member of a family on its way from `A` to `B`, a debt of that member being paid off. -/
theorem fam_open {A B : Fin 8 → sProp 𝕄} (n : Fin 8) {R S X : sProp 𝕄} {c : Dev nD} {O₀ O o : CellTallies nD τ sig Unit} (hO : O₀ = O + o) :
    iprop((R ∗ (bigSep Finset.univ (mix A B n.val) ∗ owesE c O₀) ∗ S) ∗ (bigSep Finset.univ (mix A B (n.val + 1)) ∗ owesE c O -∗ X))
      ⊢ iprop((R ∗ A n ∗ S ∗ owesE c (O + o)) ∗ (B n ∗ owesE c O -∗ X)) := by
  subst hO
  iintro ⟨⟨HR, ⟨Hf, HO⟩, HS⟩, Hk⟩
  ihave H := (mix_step A B n) $$ Hf
  icases H with ⟨HA, Hb⟩
  isplitl [HR HA HS HO]
  · isplitl [HR]; · iexact HR
    isplitl [HA]; · iexact HA
    isplitl [HS]; · iexact HS
    iexact HO
  iintro ⟨HB, HO⟩
  iapply Hk
  isplitl [Hb HB]; · iapply Hb; iexact HB
  iexact HO

theorem fam_open' {A B : Fin 8 → sProp 𝕄} (n : Fin 8) {R S X : sProp 𝕄} {c : Dev nD} {O : CellTallies nD τ sig Unit} :
    iprop((R ∗ S ∗ (bigSep Finset.univ (mix A B n.val) ∗ owesE c O)) ∗ (bigSep Finset.univ (mix A B (n.val + 1)) ∗ owesE c O -∗ X))
      ⊢ iprop((R ∗ S ∗ A n ∗ owesE c O) ∗ (B n ∗ owesE c O -∗ X)) := by
  iintro ⟨⟨HR, HS, ⟨Hf, HO⟩⟩, Hk⟩
  ihave H := (mix_step A B n) $$ Hf
  icases H with ⟨HA, Hb⟩
  isplitl [HR HA HS HO]
  · isplitl [HR]; · iexact HR
    isplitl [HS]; · iexact HS
    isplitl [HA]; · iexact HA
    iexact HO
  iintro ⟨HB, HO⟩
  iapply Hk
  isplitl [Hb HB]; · iapply Hb; iexact HB
  iexact HO

/-! ## The two copies -/

/-- What the copy of rows `64 t` of the partial product to device `t` takes. -/
def sendRs (c : Dev nD) (t : Fin 8) : sProp 𝕄 :=
  iprop(dutyTok ER (xCell 0 t c) 0 0 ∗ dutyTok ER (xCell 1 c t) 0 0 ∗ ∃ f, rsPts (F := F) t c f)
/-- What the copy of the sum to device `t` takes. -/
def sendAg (c : Dev nD) (t : Fin 8) : sProp 𝕄 :=
  iprop(dutyTok ER (xCell 2 t c) 0 0 ∗ dutyTok ER (xCell 3 c t) 0 0 ∗ ∃ f, agPts (F := F) t c f)

/-- With the first `n` copies of the partial product issued, and of the sum. -/
def stRs (c : Dev nD) (n : ℕ) : sProp 𝕄 :=
  iprop(bigSep Finset.univ (mix (off c (sendRs (F := F) c)) (sent J 0 c) n) ∗ owesE c (rest (oX 3 c) 0 + rest (oX 1 c) n))
def stAg (c : Dev nD) (n : ℕ) : sProp 𝕄 :=
  iprop(bigSep Finset.univ (mix (off c (sendAg (F := F) c)) (sent J 2 c) n) ∗ owesE c (rest (oX 3 c) n))

/-- A slot of the landed parts, and rows of the two 512 by 768 buffers, as the program slices them. -/
abbrev rsAt (off : Fin 3 → ℕ) (inb : ∀ a, off a + S1x64x768.size a ≤ S8x64x768.size a) (hs : S1x64x768.Squeezes S64x768) : Memref sig .tc .vmem S64x768 .bf16 :=
  (rsM.slice (Rect.unit (s := S8x64x768) off S1x64x768.size inb) (fun _ => rfl)).squeeze S64x768 hs
abbrev caAt (off : Fin 2 → ℕ) (inb : ∀ a, off a + S64x768.size a ≤ S512x768.size a) : Memref sig .tc .vmem S64x768 .bf16 :=
  caM.slice (Rect.unit (s := S512x768) off S64x768.size inb) (fun _ => rfl)
abbrev agAt (off : Fin 2 → ℕ) (inb : ∀ a, off a + S64x768.size a ≤ S512x768.size a) : Memref sig .tc .vmem S64x768 .bf16 :=
  agM.slice (Rect.unit (s := S512x768) off S64x768.size inb) (fun _ => rfl)

theorem rsAt_set (q : Fin 8) (off : Fin 3 → ℕ) (ho : off = ![q.val, 0, 0]) (inb hs) : (rsAt off inb hs).view.set = slot q := by
  refine (View.set_reshape (rsM.slice (Rect.unit (s := S8x64x768) off S1x64x768.size inb) (fun _ => rfl)).view _).trans ?_
  exact (View.set_slice_whole cc0_scratch2 _).trans (slot_rect q off ho inb)
theorem caAt_set (q : Fin 8) (off : Fin 2 → ℕ) (ho : off = ![64 * q.val, 0]) (inb) : (caAt off inb).view.set = rows q :=
  (View.set_slice_whole cc0_scratch1 _).trans (rows_rect q off ho inb)
theorem agAt_set (q : Fin 8) (off : Fin 2 → ℕ) (ho : off = ![64 * q.val, 0]) (inb) : (agAt off inb).view.set = rows q :=
  (View.set_slice_whole cc0_scratch3 _).trans (rows_rect q off ho inb)

/-- The credit of each copy is the same number of bytes. -/
theorem rsAt_credit (off inb hs) : (rsAt off inb hs).view.dmaCredit = N := rfl
theorem caAt_credit (off inb) : (caAt off inb).view.dmaCredit = N := rfl
theorem agAt_credit (off inb) : (agAt off inb).view.dmaCredit = N := rfl

theorem rs_landed (c t : Dev nD) (off : Fin 3 → ℕ) (ho : off = ![c.val, 0, 0]) (inb hs) (offS : Fin 2 → ℕ) (hoS : offS = ![64 * t.val, 0]) (inbS)
    (f : FVec F S8x64x768 .bf16) :
    (iprop((rsAt off inb hs).view.loc (t : Thread nD τ) ↦[(rsAt off inb hs).view.set]{fullShare}
      ((rsAt off inb hs).view.write (Elt F) f ((caAt offS inbS).view.read (Elt F) (castAll (J c))) Finset.univ)) : sProp 𝕄) ⊢ pay J 1 c t := by
  have h := write_read_on (Val := Elt F) (rsAt off inb hs).view (rsAll J t) f _ (rs_copy J c t offS hoS inbS off ho inb hs)
  rw [pointsTo_congr h, rsAt_set c off ho inb hs]
  exact BI.Entails.refl _

theorem ag_landed (c t : Dev nD) (off : Fin 2 → ℕ) (ho : off = ![64 * c.val, 0]) (inb) (f : FVec F S512x768 .bf16) :
    (iprop((agAt off inb).view.loc (t : Thread nD τ) ↦[(agAt off inb).view.set]{fullShare}
      ((agAt off inb).view.write (Elt F) f (asM.view.read (Elt F) (agSrc J c)) Finset.univ)) : sProp 𝕄) ⊢ pay J 3 c t := by
  have h := write_read_on (Val := Elt F) (agAt off inb).view (agAll J) f _ (ag_read J c off ho inb)
  rw [show asM.view.read (Elt F) (agSrc J c) = agSrc J c from View.read_whole _ _]
  rw [pointsTo_congr h, agAt_set c off ho inb]
  exact BI.Entails.refl _

theorem oX_ne (k : Fin 4) (c t : Dev nD) (h : t ≠ c) : oX k c t = tallyAt (xCell k c t) () N := if_neg h
theorem oX_self (k : Fin 4) (c : Dev nD) : oX k c c = 0 := if_pos rfl

/-- The guarded copy of rows `64 t` of the partial product to slot `c` of device `t`. -/
theorem rs_block (c : Dev nD) (t : Fin 8) {cond : Prop} [Decidable cond] (hc : cond ↔ t ≠ c)
    {n : cond → Dev nD} (hn : ∀ h, n h = t)
    {s0 : Fin 1 → ℕ} (hs0 : s0 = ![t.val]) {s0i} {r0 : Fin 1 → ℕ} (hr0 : r0 = ![c.val]) {r0i : cond → _} {q0 q1 : S1.Squeezes S_}
    {d0 : Fin 3 → ℕ} (hd0 : d0 = ![c.val, 0, 0]) {d0i : cond → _} {dq}
    {e0 : Fin 2 → ℕ} (he0 : e0 = ![64 * t.val, 0]) {e0i}
    {hsc : ∀ h : cond, (rsAt d0 (d0i h) dq).view.ref.isScScratch = false} {hsrc : (caAt e0 e0i).view.WordExact} {hdst : ∀ h : cond, (rsAt d0 (d0i h) dq).view.WordExact}
    {hsem : ∀ h : cond, DmaTarget.Typed .vmem (.dma ((cc0_scratch6.slice (Rect.unit (s := S8) r0 S1.size (r0i h))).squeeze S_ q1).sem)
      (.remote (Dev.tc (n h) : Thread nD τ) (rsAt d0 (d0i h) dq) (.dma ((cc0_scratch5.slice (Rect.unit (s := S8) s0 S1.size s0i)).squeeze S_ q0).sem) (hsc h))}
    {α : Type} {Q : α → sProp 𝕄} {k : Prog (TpuEff nD τ sig (Elt F) Λ₀ .tc) α} :
    iprop(records J K ∗ stRs J c t.val ∗ caPts c t (castAll (J c)))
      ⊢ iprop((stRs J c (t.val + 1) -∗ run c k Q)
        -∗ run c (dite cond (fun h => .op (.enqueueDma (caAt e0 e0i) (.remote (Dev.tc (n h) : Thread nD τ) (rsAt d0 (d0i h) dq)
            (.dma ((cc0_scratch5.slice (Rect.unit (s := S8) s0 S1.size s0i)).squeeze S_ q0).sem) (hsc h))
            (.dma ((cc0_scratch6.slice (Rect.unit (s := S8) r0 S1.size (r0i h))).squeeze S_ q1).sem) hsrc (hdst h) (hsem h)) fun _ => k)
          (fun _ => k)) Q) := by
  refine BIClass.wand_intro ?_
  unfold stRs
  refine (fam_open t (show _ = (rest (oX 3 c) 0 + rest (oX 1 c) (t.val + 1)) + oX 1 c t by rw [rest_step, add_assoc])).trans ?_
  generalize rest (oX 3 c) 0 + rest (oX 1 c) (t.val + 1) = O
  unfold sent
  refine run_guard c t hc (fun h htc => ?_) (fun htc => ?_)
  · rw [off_ne htc, off_ne htc, only_ne htc, oX_ne 1 c t htc]
    unfold sendRs caPts rsPts
    iintro ⟨⟨#Hr, ⟨Ht, Ht', %f, Hd⟩, Hs, HO⟩, Hk⟩
    have hS : ((cc0_scratch5.slice (Rect.unit (s := S8) s0 S1.size s0i)).squeeze S_ q0).sem = dsem 0 t := semRow_at 0 t s0 hs0 s0i q0
    have hR : ((cc0_scratch6.slice (Rect.unit (s := S8) r0 S1.size (r0i h))).squeeze S_ q1).sem = dsem 1 c := semRow_at 1 c r0 hr0 (r0i h) q1
    have hs : iprop((caAt e0 e0i).view.loc (c : Thread nD τ) ↦[(caAt e0 e0i).view.set]{fullShare} (castAll (J c))) ⊢ pay J 0 t c := by
      rw [caAt_set t e0 he0 e0i]; exact BI.Entails.refl _
    have hd := rs_landed J c t d0 hd0 (d0i h) dq e0 he0 e0i f
    have hcp := step_copy J K c t (n h) (hn h) htc 0 1 O (src := caAt e0 e0i) (dst := rsAt d0 (d0i h) dq) (hsc := hsc h) hS hR (hsrc := hsrc)
      (hdst := hdst h) (hsem := hsem h) fullShare (castAll (J c)) f (rsAt_credit _ _ _) hs (by rw [hn h]; exact hd) (k := fun _ => k) (Q := Q)
    iapply hcp $$ [Ht Ht' Hd Hs HO]
    · isplitr; · iexact Hr
      isplitl [Hs]; · rw [caAt_set t e0 he0 e0i]; iexact Hs
      isplitl [Hd]; · rw [hn h, rsAt_set c d0 hd0 (d0i h) dq]; iexact Hd
      isplitl [HO]; · iexact HO
      isplitl [Ht]; · iexact Ht
      iexact Ht'
    iintro ⟨Hc, HO⟩
    iapply Hk
    isplitl [Hc]
    · isplitr; · iempintro
      unfold credX; iexact Hc
    iexact HO
  · subst htc
    rw [off_self, off_self, only_self, oX_self, add_zero]
    iintro ⟨⟨#Hr, -, Hs, HO⟩, Hk⟩
    iapply Hk
    isplitl [Hs]
    · isplitl [Hs]; · rw [pay_0]; iexact Hs
      iempintro
    iexact HO

/-- The guarded copy of the sum to rows `64 c` of device `t`. -/
theorem ag_block (c : Dev nD) (t : Fin 8) {cond : Prop} [Decidable cond] (hc : cond ↔ t ≠ c)
    {n : cond → Dev nD} (hn : ∀ h, n h = t)
    {s0 : Fin 1 → ℕ} (hs0 : s0 = ![t.val]) {s0i} {r0 : Fin 1 → ℕ} (hr0 : r0 = ![c.val]) {r0i : cond → _} {q0 q1 : S1.Squeezes S_}
    {d0 : Fin 2 → ℕ} (hd0 : d0 = ![64 * c.val, 0]) {d0i : cond → _}
    {hsc : ∀ h : cond, (agAt d0 (d0i h)).view.ref.isScScratch = false} {hsrc : asM.view.WordExact} {hdst : ∀ h : cond, (agAt d0 (d0i h)).view.WordExact}
    {hsem : ∀ h : cond, DmaTarget.Typed .vmem (.dma ((cc0_scratch8.slice (Rect.unit (s := S8) r0 S1.size (r0i h))).squeeze S_ q1).sem)
      (.remote (Dev.tc (n h) : Thread nD τ) (agAt d0 (d0i h)) (.dma ((cc0_scratch7.slice (Rect.unit (s := S8) s0 S1.size s0i)).squeeze S_ q0).sem) (hsc h))}
    {α : Type} {Q : α → sProp 𝕄} {k : Prog (TpuEff nD τ sig (Elt F) Λ₀ .tc) α} :
    iprop(records J K ∗ stAg J c t.val ∗ asTok c t (agSrc J c))
      ⊢ iprop((stAg J c (t.val + 1) -∗ run c k Q)
        -∗ run c (dite cond (fun h => .op (.enqueueDma asM (.remote (Dev.tc (n h) : Thread nD τ) (agAt d0 (d0i h))
            (.dma ((cc0_scratch7.slice (Rect.unit (s := S8) s0 S1.size s0i)).squeeze S_ q0).sem) (hsc h))
            (.dma ((cc0_scratch8.slice (Rect.unit (s := S8) r0 S1.size (r0i h))).squeeze S_ q1).sem) hsrc (hdst h) (hsem h)) fun _ => k)
          (fun _ => k)) Q) := by
  refine BIClass.wand_intro ?_
  unfold stAg
  refine (fam_open t (rest_step (oX 3 c) t)).trans ?_
  generalize rest (oX 3 c) (t.val + 1) = O
  unfold sent
  refine run_guard c t hc (fun h htc => ?_) (fun htc => ?_)
  · rw [off_ne htc, off_ne htc, only_ne htc, oX_ne 3 c t htc]
    unfold sendAg asTok agPts
    iintro ⟨⟨#Hr, ⟨Ht, Ht', %f, Hd⟩, Hs, HO⟩, Hk⟩
    have hS : ((cc0_scratch7.slice (Rect.unit (s := S8) s0 S1.size s0i)).squeeze S_ q0).sem = dsem 2 t := semRow_at 2 t s0 hs0 s0i q0
    have hR : ((cc0_scratch8.slice (Rect.unit (s := S8) r0 S1.size (r0i h))).squeeze S_ q1).sem = dsem 3 c := semRow_at 3 c r0 hr0 (r0i h) q1
    have hs : iprop(asM.view.loc (c : Thread nD τ) ↦[asM.view.set]{Transfers.shareTok fullShare 8 t} (agSrc J c)) ⊢ pay J 2 t c := by
      rw [View.set_whole]; exact BI.Entails.refl _
    have hd := ag_landed J c t d0 hd0 (d0i h) f
    have hcp := step_copy J K c t (n h) (hn h) htc 2 3 O (src := asM) (dst := agAt d0 (d0i h)) (hsc := hsc h) hS hR (hsrc := hsrc)
      (hdst := hdst h) (hsem := hsem h) (Transfers.shareTok fullShare 8 t) (agSrc J c) f (agAt_credit _ _) hs (by rw [hn h]; exact hd) (k := fun _ => k) (Q := Q)
    iapply hcp $$ [Ht Ht' Hd Hs HO]
    · isplitr; · iexact Hr
      isplitl [Hs]; · rw [View.set_whole]; iexact Hs
      isplitl [Hd]; · rw [hn h, agAt_set c d0 hd0 (d0i h)]; iexact Hd
      isplitl [HO]; · iexact HO
      isplitl [Ht]; · iexact Ht
      iexact Ht'
    iintro ⟨Hc, HO⟩
    iapply Hk
    isplitl [Hc]
    · isplitr; · iempintro
      unfold credX; iexact Hc
    iexact HO
  · subst htc
    rw [off_self, off_self, only_self, oX_self, add_zero]
    iintro ⟨⟨#Hr, -, Hs, HO⟩, Hk⟩
    iapply Hk
    isplitl [Hs]
    · isplitl [Hs]; · rw [pay_2]; iexact Hs
      iempintro
    iexact HO

/-! ## Guarded waits -/

/-- Entry `q` of row `k` before its wait and after. -/
def pend (k : Fin 4) (c : Dev nD) (q : Fin 8) : sProp 𝕄 := iprop(sent J k c q ∗ atPos ER (xCell k q c) 0 ∅ 0)
def done (k : Fin 4) (c : Dev nD) (q : Fin 8) : sProp 𝕄 := iprop(pay J k q c ∗ semVal (xCell k q c) 0)

/-- With the first `n` of the eight waits on row `k` done; and of the last eight pairs of waits. -/
def stW (k : Fin 4) (c : Dev nD) (O : CellTallies nD τ sig Unit) (n : ℕ) : sProp 𝕄 :=
  iprop(bigSep Finset.univ (mix (pend J k c) (done J k c) n) ∗ owesE c O)
def stE (c : Dev nD) (n : ℕ) : sProp 𝕄 :=
  iprop(bigSep Finset.univ (mix (fun q => iprop(pend J 0 c q ∗ pend J 2 c q)) (fun q => iprop(done J 0 c q ∗ done J 2 c q)) n) ∗ owesE c 0)

theorem wait_block (kk : Fin 4) (c : Dev nD) (q : Fin 8) (O : CellTallies nD τ sig Unit)
    (hO : ∀ g u, 0 < O g u → g.1.2 = .tc ∧ (match kk with | 1 => 2 | 3 => 3 | _ => 0) < lv g u)
    {cond : Prop} [Decidable cond] (hc : cond ↔ q ≠ c)
    {A : DmaSems sig S8} (hA : A = semRow kk) {s0 : Fin 1 → ℕ} (hs0 : s0 = ![q.val]) {s0i} {q0 : S1.Squeezes S_}
    {s : Shape} {src : Memref sig .tc .vmem s .bf16} {dst : Memref sig .tc .vmem s .bf16} (hN : dst.view.dmaCredit = N) {h1 h2}
    {α : Type} {Q : α → sProp 𝕄} {k : Prog (TpuEff nD τ sig (Elt F) Λ₀ .tc) α} :
    iprop(records J K ∗ levAts L lv ∗ stW J kk c O q.val)
      ⊢ iprop((stW J kk c O (q.val + 1) -∗ run c k Q)
        -∗ run c (dite cond (fun _ => .op (.waitDma2 ((A.slice (Rect.unit (s := S8) s0 S1.size s0i)).squeeze S_ q0).sem src dst h1 h2) fun _ => k)
          (fun _ => k)) Q) := by
  subst hA
  refine BIClass.wand_intro ?_
  unfold stW
  refine (fam_open' q).trans ?_
  unfold pend done sent
  refine run_guard c q hc (fun h hq => ?_) (fun hq => ?_)
  · rw [off_ne hq, only_ne hq]
    unfold credX
    iintro ⟨⟨#Hr, #Hlev, ⟨⟨-, Hc⟩, Hat⟩, HO⟩, Hk⟩
    iapply (step_wait J K c kk q hq O hO (semRow_at kk q s0 hs0 s0i q0) hN) $$ [Hc Hat HO]
    · isplitr; · iexact Hr
      isplitr; · iexact Hlev
      isplitl [Hc]; · iexact Hc
      isplitl [Hat] <;> iassumption
    iintro ⟨Hp, Hz, HO⟩
    iapply Hk
    isplitl [Hp Hz]; · isplitl [Hp] <;> iassumption
    iexact HO
  · subst hq
    rw [off_self, only_self]
    iintro ⟨⟨#Hr, #Hlev, ⟨⟨Hp, -⟩, Hat⟩, HO⟩, Hk⟩
    imod (step_idle J K q kk (P := semVal (xCell kk q q) 0)) $$ [Hat] with Hz
    · isplitr; · iexact Hr
      isplitl [Hat]; · iexact Hat
      iintro H; imodintro; iexact H
    iapply Hk
    isplitl [Hp Hz]
    · isplitl [Hp]; · iexact Hp
      iexact Hz
    iexact HO

/-- The two waits at the end for the copies to device `t` having been sent. -/
theorem wait2_block (c : Dev nD) (q : Fin 8) {cond : Prop} [Decidable cond] (hc : cond ↔ q ≠ c)
    {s0 s1 : Fin 1 → ℕ} (hs0 : s0 = ![q.val]) {s0i} (hs1 : s1 = ![q.val]) {s1i} {q0 q1 : S1.Squeezes S_}
    {s : Shape} {src src' : cond → Memref sig .tc .vmem s .bf16} {dst dst' : cond → Memref sig .tc .vmem s .bf16} (hN : ∀ h, (dst h).view.dmaCredit = N)
    (hN' : ∀ h, (dst' h).view.dmaCredit = N) {h1 h2 h3 h4 : ∀ h : cond, _}
    {α : Type} {Q : α → sProp 𝕄} {k : Prog (TpuEff nD τ sig (Elt F) Λ₀ .tc) α} :
    iprop(records J K ∗ levAts L lv ∗ stE J c q.val)
      ⊢ iprop((stE J c (q.val + 1) -∗ run c k Q)
        -∗ run c (dite cond (fun h => .op (.waitDma2 ((cc0_scratch5.slice (Rect.unit (s := S8) s0 S1.size s0i)).squeeze S_ q0).sem (src h) (dst h) (h1 h) (h2 h)) fun _ =>
            .op (.waitDma2 ((cc0_scratch7.slice (Rect.unit (s := S8) s1 S1.size s1i)).squeeze S_ q1).sem (src' h) (dst' h) (h3 h) (h4 h)) fun _ => k)
          (fun _ => k)) Q) := by
  have h0 : ∀ (n : ℕ) (g : GSem nD τ sig) (u : Unit), 0 < (0 : CellTallies nD τ sig Unit) g u → g.1.2 = .tc ∧ n < lv g u :=
    fun n g u h => absurd h (Nat.lt_irrefl 0)
  refine BIClass.wand_intro ?_
  unfold stE
  refine (fam_open' q).trans ?_
  unfold pend done sent
  refine run_guard c q hc (fun h hq => ?_) (fun hq => ?_)
  · rw [off_ne hq, only_ne hq, off_ne hq, only_ne hq]
    unfold credX
    iintro ⟨⟨#Hr, #Hlev, ⟨⟨⟨-, Hc⟩, Hat⟩, ⟨-, Hc'⟩, Hat'⟩, HO⟩, Hk⟩
    iapply (step_wait J K c 0 q hq 0 (h0 _) (semRow_at 0 q s0 hs0 s0i q0) (hN h)) $$ [Hc Hat HO]
    · isplitr; · iexact Hr
      isplitr; · iexact Hlev
      isplitl [Hc]; · iexact Hc
      isplitl [Hat] <;> iassumption
    iintro ⟨Hp, Hz, HO⟩
    iapply (step_wait J K c 2 q hq 0 (h0 _) (semRow_at 2 q s1 hs1 s1i q1) (hN' h)) $$ [Hc' Hat' HO]
    · isplitr; · iexact Hr
      isplitr; · iexact Hlev
      isplitl [Hc']; · iexact Hc'
      isplitl [Hat'] <;> iassumption
    iintro ⟨Hp', Hz', HO⟩
    iapply Hk
    isplitl [Hp Hz Hp' Hz']
    · isplitl [Hp Hz]; · isplitl [Hp] <;> iassumption
      isplitl [Hp'] <;> iassumption
    iexact HO
  · subst hq
    rw [off_self, only_self, off_self, only_self]
    iintro ⟨⟨#Hr, #Hlev, ⟨⟨⟨Hp, -⟩, Hat⟩, ⟨Hp', -⟩, Hat'⟩, HO⟩, Hk⟩
    imod (step_idle J K q 0 (P := semVal (xCell 0 q q) 0)) $$ [Hat] with Hz
    · isplitr; · iexact Hr
      isplitl [Hat]; · iexact Hat
      iintro H; imodintro; iexact H
    imod (step_idle J K q 2 (P := semVal (xCell 2 q q) 0)) $$ [Hat'] with Hz'
    · isplitr; · iexact Hr
      isplitl [Hat']; · iexact Hat'
      iintro H; imodintro; iexact H
    iapply Hk
    isplitl [Hp Hz Hp' Hz']
    · isplitl [Hp Hz]; · isplitl [Hp] <;> iassumption
      isplitl [Hp'] <;> iassumption
    iexact HO

/-! ## Buffers filled part by part -/

/-- A buffer whose first `n` parts hold what `G` holds; `bn` says which part an entry lies in. -/
def filled (c : Dev nD) {s : Shape} {e : EltTy} (m : Memref sig .tc .vmem s e) (bn : m.view.ty.Idx → ℕ) (G : m.view.ty.Contents (Elt F)) (n : ℕ) : sProp 𝕄 :=
  iprop(∃ f : Buf (Elt F) (m.view.loc (c : Thread nD τ)), ⌜∀ i, bn i < n → f i = G i⌝ ∗ ((m.view.loc (c : Thread nD τ)) ↦{fullShare} f))

theorem filled_load (c : Dev nD) {s : Shape} {e : EltTy} (m : Memref sig .tc .vmem s e) (bn : m.view.ty.Idx → ℕ) (G : m.view.ty.Contents (Elt F)) (n : ℕ)
    {r : LoadRect s} {hl : m.view.LoadsAt r} {α : Type} {Q : α → sProp 𝕄} {k : (r.shape.Idx → Elt F e) → Prog (TpuEff nD τ sig (Elt F) Λ₀ .tc) α} :
    filled c m bn G n ⊢ iprop((∀ v, filled c m bn G n -∗ run c (k v) Q) -∗ run c (.op (.load m r hl) k) Q) := by
  unfold filled
  iintro ⟨%f, %hf, H⟩ Hk
  iapply (wp_load 𝒱₀ (c : Thread nD τ) none Set.univ (m := m) (Finset.subset_univ _)) $$ H
  iintro H
  iapply Hk
  iexists f
  isplitr; · ipureintro; exact hf
  iexact H

theorem filled_store (c : Dev nD) {s : Shape} {e : EltTy} (m : Memref sig .tc .vmem s e) (bn : m.view.ty.Idx → ℕ) (G : m.view.ty.Contents (Elt F)) (n : ℕ)
    {r : Rect s} {w hx hm} (hw : w = (m.access r).read (Elt F) G) (hv : ∀ i, bn i = n → i ∈ (m.access r).set) {α : Type} {Q : α → sProp 𝕄}
    {k : PUnit → Prog (TpuEff nD τ sig (Elt F) Λ₀ .tc) α} :
    filled c m bn G n ⊢ iprop((filled c m bn G (n + 1) -∗ run c (k ⟨⟩) Q) -∗ run c (.op (.store m r w Finset.univ hx hm) k) Q) := by
  unfold filled
  iintro ⟨%f, %hf, H⟩ Hk
  iapply (wp_store 𝒱₀ (c : Thread nD τ) none Set.univ (m := m) (r := r) (Mk := Finset.univ) (Finset.subset_univ _)) $$ H
  iintro H
  iapply Hk
  iexists _
  isplitr
  rotate_left
  · iexact H
  ipureintro
  exact write_prefix (m.access r) bn n G f w hw hv hf

end Cert.KernelIdealProof

end
-- ==== Proof.Heads.lean ====
/-
# The sixteen blocks of the attention array

The program prints the attention of one head sixteen times, cut into sub-expressions at different places; each is the
same function of its head and batch member.
-/
module

public import proofs.«01_k».proof.Proof.Vals

@[expose] public section

noncomputable section

namespace Cert.KernelIdealProof

open Cert.KernelIdeal Cert.KernelIdeal.Gen Cert.Fam
open Idealize.ShloMosaic

variable {F : FTy → Type} [FloatOps F] [Named F] (I : Inputs F)

theorem head_00 : k0_pay10 (k0_pay6 I.x I.wv) (k0_pay8 I.x I.wq I.wk) (k0_pay9 I.x I.wq I.wk) = head I 0 0 := rfl
theorem head_10 : k0_pay11 (qT I) (kT I) (vT I) = head I 1 0 := rfl
theorem head_20 : k0_pay12 (qT I) (kT I) (vT I) = head I 2 0 := rfl
theorem head_30 : k0_pay16 (k0_pay13 (qT I)) (k0_pay14 (kT I)) (k0_pay15 (vT I)) (constant S256x256 .f32 0x00000000#32) = head I 3 0 := rfl
theorem head_40 : k0_pay17 (qT I) (kT I) (vT I) = head I 4 0 := rfl
theorem head_50 : k0_pay19 (k0_pay18 (qT I) (kT I) (vT I)) = head I 5 0 := rfl
theorem head_60 : k0_pay20 (qT I) (kT I) (vT I) = head I 6 0 := rfl
theorem head_70 : k0_pay21 (qT I) (kT I) (vT I) = head I 7 0 := rfl
theorem head_01 : k0_pay23 (qT I) (kT I) (vT I) = head I 0 1 := rfl
theorem head_11 : k0_pay27 (k0_pay24 (vT I)) (k0_pay25 (qT I) (kT I)) (k0_pay26 (qT I) (kT I)) = head I 1 1 := rfl
theorem head_21 : k0_pay28 (qT I) (kT I) (vT I) = head I 2 1 := rfl
theorem head_31 : k0_pay29 (qT I) (kT I) (vT I) = head I 3 1 := rfl
theorem head_41 : k0_pay33 (k0_pay30 (qT I)) (k0_pay31 (kT I)) (k0_pay32 (vT I)) = head I 4 1 := rfl
theorem head_51 : k0_pay34 (qT I) (kT I) (vT I) = head I 5 1 := rfl
theorem head_61 : k0_pay36 (k0_pay35 (qT I) (kT I) (vT I)) = head I 6 1 := rfl
theorem head_71 : k0_pay37 (qT I) (kT I) (vT I) = head I 7 1 := rfl

/-- The second half's product, and the eight conversions of a sum, are printed anew too. -/
theorem cast_hi (w : FVec F S512x768 .bf16) (a : FVec F S512x256 .bf16) : k0_pay38 w a = k0_pay22 w a := rfl

end Cert.KernelIdealProof

end
-- ==== Proof.BodyA.lean ====
/-
# The body up to the first half of the partial product

Seven signals, the five loads, and the first batch member's eight blocks of attention, times the output matrix.
-/
module

public import proofs.«01_k».proof.Proof.Blocks
public import proofs.«01_k».proof.Proof.Heads

@[expose] public section

noncomputable section

namespace Cert.KernelIdealProof

open Cert.KernelIdeal Cert.KernelIdeal.Gen Cert.Fam

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (J : Dev nD → Inputs F) (K : Dev nD × CI → ℕ)

/-! ## Signals -/

def sendBar (c : Dev nD) (d : Fin 8) : sProp 𝕄 := iprop(dutyTok ER (barCell (c + d)) 0 c ∗ barPay (F := F) (c + d) c)

/-- With the signals to the devices before the `n`-th after this one sent. -/
def stBar (c : Dev nD) (n : ℕ) : sProp 𝕄 :=
  iprop(bigSep Finset.univ (mix (off 0 (sendBar (F := F) c)) (fun _ => iprop(emp)) n)
    ∗ owesE c (rest (oX 3 c) 0 + rest (oX 1 c) 0 + rest (oBar c) n))

theorem bar_step (c d n : Dev nD) (hd : d ≠ 0) (hn : n = c + d) {α : Type} {Q : α → sProp 𝕄}
    {k : PUnit → Prog (TpuEff nD τ sig (Elt F) Λ₀ .tc) α} {k' : ℕ} (hk : k' = 1) :
    iprop(records J K ∗ stBar (F := F) c d.val)
      ⊢ iprop((stBar (F := F) c (d.val + 1) -∗ run c (k ⟨⟩) Q) -∗ run c (.op (.semSignal (n : Thread nD τ) barS k') k) Q) := by
  refine BIClass.wand_intro ?_
  unfold stBar
  rw [rest_step (oBar c) d, ← add_assoc]
  iintro ⟨⟨#Hr, Hf, HO⟩, Hk⟩
  ihave H := (mix_step (off 0 (sendBar (F := F) c)) (fun _ => iprop(emp)) d) $$ Hf
  icases H with ⟨HA, Hb⟩
  ihave HA := (Entails.of_eq ((off_ne hd (sendBar (F := F) c)).trans (by unfold sendBar; rfl))) $$ HA
  icases HA with ⟨Ht, Hp⟩
  iapply (step_signal J K c n d hd hn (rest (oX 3 c) 0 + rest (oX 1 c) 0 + rest (oBar c) (d.val + 1)) hk) $$ [Ht Hp HO]
  · isplitr; · iexact Hr
    isplitl [Ht]; · iexact Ht
    isplitl [Hp] <;> iassumption
  iintro HO
  iapply Hk
  isplitl [Hb]; · iapply Hb; iempintro
  iexact HO

theorem run_ret (c : Dev nD) {α : Type} (a : α) (Q : α → sProp 𝕄) : Q a ⊢ run c (Prog.ret a) Q := by
  unfold run
  rw [wp_ret]
  iintro H; imodintro; iexact H

theorem run_bind (c : Dev nD) {α β : Type} (p : Prog (TpuEff nD τ sig (Elt F) Λ₀ .tc) α) (k : α → Prog (TpuEff nD τ sig (Elt F) Λ₀ .tc) β) (Q : β → sProp 𝕄) :
    run c (p >>= k) Q = run c p (fun a => run c (k a) Q) := by
  simp only [run, wp_bind]

/-- The barrier semaphore, as an array of one. -/
abbrev barArr : Sems sig S_ := SemArray.scalar (sig.barrier 0 rfl)

/-- This device's number as the program computes it. -/
abbrev myWord (c : Dev nD) : BitVec 32 := Scalar.remsi (Scalar.divsi (Dev.word c) 1#32) 8#32

theorem part1 (c : Dev nD) (Kt : _ → sProp 𝕄) :
    iprop(records J K ∗ stBar (F := F) c 1 ∗ (stBar (F := F) c 3 -∗
        Kt ⟨c, myWord c, barArr, Scalar.addi (myWord c) 3#32, 8#32, Scalar.cmpi .eq 8#32 0#32⟩))
      ⊢ run c (k0_part1 (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8) Kt := by
  simp only [k0_part1_eq_skeleton]; unfold k0_part1_skel
  simp only [semSignalWord, Prog.lift, Prog.bind_op, Prog.bind_ret, Prog.pure_eq_ret, wp_deviceId]
  iintro ⟨#Hr, Hb, Hk⟩
  iapply (bar_step J K c 1 _ (by decide) (by revert c; decide) (by decide)) $$ [Hb]
  · isplitr; · iexact Hr
    iexact Hb
  iintro Hb
  iapply (bar_step J K c 2 _ (by decide) (by revert c; decide) (by decide)) $$ [Hb]
  · isplitr; · iexact Hr
    iexact Hb
  iintro Hb
  iapply (run_ret c); iapply Hk; iexact Hb

theorem part2 (c : Dev nD) (v30 c8 v31) (Kt : _ → sProp 𝕄) :
    iprop(records J K ∗ stBar (F := F) c 3 ∗ (stBar (F := F) c 5 -∗ ∀ r, Kt r))
      ⊢ run c (k0_part2 (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8 c (myWord c) barArr v30 c8 v31) Kt := by
  simp only [k0_part2_eq_skeleton]; unfold k0_part2_skel
  simp only [semSignalWord, Prog.lift, Prog.bind_op, Prog.bind_ret, Prog.pure_eq_ret]
  iintro ⟨#Hr, Hb, Hk⟩
  iapply (bar_step J K c 3 _ (by decide) (by revert c; decide) (by decide)) $$ [Hb]
  · isplitr; · iexact Hr
    iexact Hb
  iintro Hb
  iapply (bar_step J K c 4 _ (by decide) (by revert c; decide) (by decide)) $$ [Hb]
  · isplitr; · iexact Hr
    iexact Hb
  iintro Hb
  iapply (run_ret c); ispecialize Hk $$ [Hb]
  · iexact Hb
  iapply Hk

theorem part3 (c : Dev nD) (v59 v64 v65) (Kt : _ → sProp 𝕄) :
    iprop(records J K ∗ stBar (F := F) c 5 ∗ (stBar (F := F) c 8 -∗ ∀ r, Kt r))
      ⊢ run c (k0_part3 (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8 c (myWord c) barArr v59 v64 v65) Kt := by
  simp only [k0_part3_eq_skeleton]; unfold k0_part3_skel
  simp only [semSignalWord, Prog.lift, Prog.bind_op, Prog.bind_ret, Prog.pure_eq_ret]
  iintro ⟨#Hr, Hb, Hk⟩
  iapply (bar_step J K c 5 _ (by decide) (by revert c; decide) (by decide)) $$ [Hb]
  · isplitr; · iexact Hr
    iexact Hb
  iintro Hb
  iapply (bar_step J K c 6 _ (by decide) (by revert c; decide) (by decide)) $$ [Hb]
  · isplitr; · iexact Hr
    iexact Hb
  iintro Hb
  iapply (bar_step J K c 7 _ (by decide) (by revert c; decide) (by decide)) $$ [Hb]
  · isplitr; · iexact Hr
    iexact Hb
  iintro Hb
  iapply (run_ret c); ispecialize Hk $$ [Hb]
  · iexact Hb
  iapply Hk

/-! ## The loads -/

/-- A whole buffer's contents. -/
abbrev buf (c : Dev nD) (b : Ref sig .tc) (X : b.ty.Contents (Elt F)) : sProp 𝕄 := iprop(((c : Thread nD τ).loc b) ↦{fullShare} X)

def inBufs (c : Dev nD) (I : Inputs F) : sProp 𝕄 :=
  iprop(buf c cc0_stg0_0 I.x ∗ buf c cc0_stg1_0 I.wq ∗ buf c cc0_stg2_0 I.wo ∗ buf c cc0_stg3_0 I.wk ∗ buf c cc0_stg4_0 I.wv)

theorem zero2 : (![0, 0] : Fin 2 → Nat) = fun _ => 0 := funext fun a => by fin_cases a <;> rfl
theorem zero3 : (![0, 0, 0] : Fin 3 → Nat) = fun _ => 0 := funext fun a => by fin_cases a <;> rfl

theorem part4 (c : Dev nD) (I : Inputs F) (w) (Kt : _ → sProp 𝕄) :
    iprop(inBufs c I ∗ (inBufs c I -∗
        Kt ⟨woB I, qT I, kT I, vT I, k0_pay6 I.x I.wv, k0_pay8 I.x I.wq I.wk, k0_pay9 I.x I.wq I.wk⟩))
      ⊢ run c (k0_part4 (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8 (myWord c) w) Kt := by
  simp only [k0_part4_eq_skeleton]; unfold k0_part4_skel inBufs
  simp only [Prog.lift, Prog.bind_op, Prog.bind_ret, Prog.pure_eq_ret]
  iintro ⟨⟨H0, H1, H2, H3, H4⟩, Hk⟩
  iapply (wp_load 𝒱₀ (c : Thread nD τ) none Set.univ (m := xM) (Finset.subset_univ _)) $$ H0; iintro H0
  iapply (wp_load 𝒱₀ (c : Thread nD τ) none Set.univ (m := woM) (Finset.subset_univ _)) $$ H2; iintro H2
  iapply (wp_load 𝒱₀ (c : Thread nD τ) none Set.univ (m := wqM) (Finset.subset_univ _)) $$ H1; iintro H1
  iapply (wp_load 𝒱₀ (c : Thread nD τ) none Set.univ (m := wkM) (Finset.subset_univ _)) $$ H3; iintro H3
  iapply (wp_load 𝒱₀ (c : Thread nD τ) none Set.univ (m := wvM) (Finset.subset_univ _)) $$ H4; iintro H4
  rw [show xM.view.readAt (Elt F) (Rect.unit (s := S2x256x768) ![0, 0, 0] S2x256x768.size inb_S2x256x768_S2x256x768_0_0_0).toLoadRect I.x = I.x
      from Memref.readAt_unit_zero (Elt F) cc0_stg0_0 zero3 _ _,
    show wqM.view.readAt (Elt F) (Rect.unit (s := S768x512) ![0, 0] S768x512.size inb_S768x512_S768x512_0_0).toLoadRect I.wq = I.wq
      from Memref.readAt_unit_zero (Elt F) cc0_stg1_0 zero2 _ _,
    show woM.view.readAt (Elt F) (Rect.unit (s := S512x768) ![0, 0] S512x768.size inb_S512x768_S512x768_0_0).toLoadRect I.wo = I.wo
      from Memref.readAt_unit_zero (Elt F) cc0_stg2_0 zero2 _ _,
    show wkM.view.readAt (Elt F) (Rect.unit (s := S768x512) ![0, 0] S768x512.size inb_S768x512_S768x512_0_0).toLoadRect I.wk = I.wk
      from Memref.readAt_unit_zero (Elt F) cc0_stg3_0 zero2 _ _,
    show wvM.view.readAt (Elt F) (Rect.unit (s := S768x512) ![0, 0] S768x512.size inb_S768x512_S768x512_0_0).toLoadRect I.wv = I.wv
      from Memref.readAt_unit_zero (Elt F) cc0_stg4_0 zero2 _ _]
  iapply (run_ret c)
  iapply Hk
  isplitl [H0]; · iexact H0
  isplitl [H1]; · iexact H1
  isplitl [H2]; · iexact H2
  isplitl [H3] <;> iassumption

/-! ## The first half of the attention -/

/-- Which of the sixteen blocks, in the order they are stored. -/
def atPart (i : S512x512.Idx) : ℕ := 8 * ((i 1).val / 256) + (i 0).val / 64

/-- With the first `n` blocks stored. -/
abbrev stAt (c : Dev nD) (I : Inputs F) (n : ℕ) : sProp 𝕄 := filled c atM atPart (attnAll I) n

theorem at_mem (h : Fin 8) (b : Fin 2) (off : Fin 2 → ℕ) (ho : off = ![64 * h.val, 256 * b.val])
    (inb : ∀ a, off a + S64x256.size a ≤ S512x512.size a) (i : S512x512.Idx) (hi : atPart i = 8 * b.val + h.val) :
    i ∈ (atM.access (Rect.unit (s := S512x512) off S64x256.size inb)).set := by
  subst ho
  show i ∈ ((View.whole cc0_scratch0).slice (Rect.unit (s := S512x512) ![64 * h.val, 256 * b.val] S64x256.size inb)).set
  have h0 : (i 0).val < 512 := (i 0).isLt
  have h1 : (i 1).val < 512 := (i 1).isLt
  have := h.isLt; have := b.isLt
  unfold atPart at hi
  rw [View.set_slice_whole, Rect.mem_set_unit]
  intro a
  match a with
  | 0 => show 64 * h.val ≤ (i 0).val ∧ (i 0).val < 64 * h.val + 64; omega
  | 1 => show 256 * b.val ≤ (i 1).val ∧ (i 1).val < 256 * b.val + 256; omega

/-- A block's load, whose value is not used, and its store. -/
theorem at_store (c : Dev nD) (I : Inputs F) (h : Fin 8) (b : Fin 2) {off : Fin 2 → ℕ} (ho : off = ![64 * h.val, 256 * b.val])
    {inb : ∀ a, off a + S64x256.size a ≤ S512x512.size a} {w hx hm} (hw : w = head I h b) {α : Type} {Q : α → sProp 𝕄}
    {k : PUnit → Prog (TpuEff nD τ sig (Elt F) Λ₀ .tc) α} :
    stAt c I (8 * b.val + h.val) ⊢ iprop((stAt c I (8 * b.val + h.val + 1) -∗ run c (k ⟨⟩) Q)
      -∗ run c (.op (.store atM (Rect.unit (s := S512x512) off S64x256.size inb) w Finset.univ hx hm) k) Q) :=
  filled_store c atM atPart (attnAll I) _ (hw.trans (attn_read I h b off ho inb)) (at_mem h b off ho inb)

theorem part5 (c : Dev nD) (I : Inputs F) (Kt : _ → sProp 𝕄) :
    iprop(stAt c I 0 ∗ (stAt c I 3 -∗ Kt ⟨k0_pay13 (qT I), k0_pay14 (kT I), k0_pay15 (vT I), constant S256x256 .f32 0x00000000#32⟩))
      ⊢ run c (k0_part5 (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8 (qT I) (kT I) (vT I) (k0_pay6 I.x I.wv) (k0_pay8 I.x I.wq I.wk) (k0_pay9 I.x I.wq I.wk)) Kt := by
  simp only [k0_part5_eq_skeleton]; unfold k0_part5_skel
  simp only [Prog.lift, Prog.bind_op, Prog.bind_ret, Prog.pure_eq_ret]
  iintro ⟨H, Hk⟩
  iapply (filled_load c atM atPart (attnAll I) 0) $$ H; iintro %_ H
  iapply (at_store c I 0 0 rfl (head_00 I)) $$ H; iintro H
  iapply (filled_load c atM atPart (attnAll I) 1) $$ H; iintro %_ H
  iapply (at_store c I 1 0 rfl (head_10 I)) $$ H; iintro H
  iapply (filled_load c atM atPart (attnAll I) 2) $$ H; iintro %_ H
  iapply (at_store c I 2 0 rfl (head_20 I)) $$ H; iintro H
  iapply (run_ret c); iapply Hk; iexact H

theorem part6 (c : Dev nD) (I : Inputs F) (Kt : _ → sProp 𝕄) :
    iprop(stAt c I 3 ∗ (stAt c I 5 -∗ Kt (k0_pay18 (qT I) (kT I) (vT I))))
      ⊢ run c (k0_part6 (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8 (qT I) (kT I) (vT I) (k0_pay13 (qT I)) (k0_pay14 (kT I)) (k0_pay15 (vT I)) (constant S256x256 .f32 0x00000000#32)) Kt := by
  simp only [k0_part6_eq_skeleton]; unfold k0_part6_skel
  simp only [Prog.lift, Prog.bind_op, Prog.bind_ret, Prog.pure_eq_ret]
  iintro ⟨H, Hk⟩
  iapply (filled_load c atM atPart (attnAll I) 3) $$ H; iintro %_ H
  iapply (at_store c I 3 0 rfl (head_30 I)) $$ H; iintro H
  iapply (filled_load c atM atPart (attnAll I) 4) $$ H; iintro %_ H
  iapply (at_store c I 4 0 rfl (head_40 I)) $$ H; iintro H
  iapply (filled_load c atM atPart (attnAll I) 5) $$ H; iintro %_ H
  iapply (run_ret c); iapply Hk; iexact H

/-! ## The partial product, a batch member at a time -/

/-- The rows of batch member `b`. -/
def half (b : Fin 2) : Finset S512x768.Idx := Finset.univ.filter fun i => (i 0).val / 256 = b.val
/-- The four row groups of batch member `b`. -/
def quad (b : Fin 2) (t : Fin 4) : Fin 8 := ⟨4 * b.val + t.val, by omega⟩

theorem mem_half {b : Fin 2} {i : S512x768.Idx} : i ∈ half b ↔ (i 0).val / 256 = b.val := by simp [half]

theorem half_rect (b : Fin 2) (off : Fin 2 → ℕ) (h : off = ![256 * b.val, 0]) (inb : ∀ a, off a + S256x768.size a ≤ S512x768.size a) :
    (Rect.unit (s := S512x768) off S256x768.size inb).set = half b := by
  subst h
  ext i
  rw [Rect.mem_set_unit, mem_half, Fin.forall_fin_two]
  have h1 : (i 1).val < 768 := (i 1).isLt
  show (256 * b.val ≤ (i 0).val ∧ (i 0).val < 256 * b.val + 256) ∧ (0 ≤ (i 1).val ∧ (i 1).val < 0 + 768) ↔ _
  omega

theorem half_quads (b : Fin 2) (i : S512x768.Idx) : i ∈ half b ↔ ∃ t : Fin 4, i ∈ rows (quad b t) := by
  simp only [mem_rows, mem_half, quad]
  constructor
  · intro h; exact ⟨⟨(i 0).val / 64 % 4, Nat.mod_lt _ (by decide)⟩, by simp only; omega⟩
  · rintro ⟨t, h⟩; have := t.isLt; omega

theorem half_cover : half 0 ∪ half 1 = Finset.univ := by
  ext i
  have h : (i 0).val < 512 := (i 0).isLt
  simp only [Finset.mem_union, mem_half, Finset.mem_univ, iff_true]
  show (i 0).val / 256 = 0 ∨ (i 0).val / 256 = 1
  omega

theorem half_disjoint : Disjoint (half 0) (half 1) :=
  Finset.disjoint_left.mpr fun i hi hi' => absurd ((mem_half.mp hi).symm.trans (mem_half.mp hi')) (by decide)

def caHalf (c : Dev nD) (b : Fin 2) (f : FVec F S512x768 .bf16) : sProp 𝕄 :=
  caM.view.loc (c : Thread nD τ) ↦[half b]{fullShare} (f : Buf (Elt F) (caM.view.loc (c : Thread nD τ)))

theorem ca_split (c : Dev nD) (f : FVec F S512x768 .bf16) : buf c cc0_scratch1 f = iprop(caHalf c 0 f ∗ caHalf c 1 f) := by
  unfold caHalf buf
  rw [← half_cover]
  have h : ((c : Thread nD τ).loc cc0_scratch1 ↦[half 0 ∪ half 1]{fullShare} (f : Buf (Elt F) ((c : Thread nD τ).loc cc0_scratch1)) : sProp 𝕄)
      ⊣⊢ iprop(((c : Thread nD τ).loc cc0_scratch1 ↦[half 0]{fullShare} (f : Buf (Elt F) ((c : Thread nD τ).loc cc0_scratch1)))
        ∗ ((c : Thread nD τ).loc cc0_scratch1 ↦[half 1]{fullShare} (f : Buf (Elt F) ((c : Thread nD τ).loc cc0_scratch1)))) := pointsTo_union half_disjoint
  exact Entails.antisymm h.1 h.2

/-- A part of a buffer is the smaller parts it is made of. -/
theorem pts_parts {ℓ : Loc nD τ sig} {T : Type} [Fintype T] (S : Finset (Idx ℓ)) (P : T → Finset (Idx ℓ)) (hS : ∀ i, i ∈ S ↔ ∃ t, i ∈ P t)
    (hd : ∀ t t', t ≠ t' → Disjoint (P t) (P t')) (q : PosShare TreeShare) (f : Buf (Elt F) ℓ) :
    ((ℓ ↦[S]{q} f) : sProp 𝕄) = bigSep Finset.univ fun t => ℓ ↦[P t]{q} f := by
  rw [← pointsTo_biUnion Finset.univ P fun t _ t' _ h => hd t t' h, show S = Finset.univ.biUnion P from
    Finset.ext fun i => by rw [hS i, Finset.mem_biUnion]; simp only [Finset.mem_univ, true_and]]

theorem ca_quads (c : Dev nD) (b : Fin 2) (f : FVec F S512x768 .bf16) :
    caHalf c b f = bigSep Finset.univ fun t : Fin 4 => caPts c (quad b t) f :=
  pts_parts (ℓ := caM.view.loc (c : Thread nD τ)) (half b) (fun t : Fin 4 => rows (quad b t)) (half_quads b)
    (fun t t' h => rows_disjoint fun e => h (Fin.ext (by have := congrArg Fin.val e; simp only [quad] at this; omega))) fullShare f

/-- A load whose value is not used, and a store, of just the part of a buffer that is held. -/
theorem part_load (c : Dev nD) {s : Shape} {e : EltTy} (m : Memref sig .tc .vmem s e) {r : Rect s} (S : Finset m.view.ty.Idx) (f : m.view.ty.Contents (Elt F))
    (hS : (m.access r).set = S) {hl} {α : Type} {Q : α → sProp 𝕄} {k : (r.toLoadRect.shape.Idx → Elt F e) → Prog (TpuEff nD τ sig (Elt F) Λ₀ .tc) α} :
    ((m.view.loc (c : Thread nD τ) ↦[S]{fullShare} f) : sProp 𝕄)
      ⊢ iprop(((m.view.loc (c : Thread nD τ) ↦[S]{fullShare} f) -∗ run c (k (m.view.readAt (Elt F) r.toLoadRect f)) Q)
        -∗ run c (.op (.load m r.toLoadRect hl) k) Q) := by
  have hS' : m.view.setOn r.toLoadRect.set ⊆ S := by
    have h : (m.access r).set ⊆ S := hS.le
    rwa [View.set_slice] at h
  exact wp_load 𝒱₀ (c : Thread nD τ) none Set.univ (m := m) (S := S) (r := r.toLoadRect) hS'

theorem part_store (c : Dev nD) {s : Shape} {e : EltTy} (m : Memref sig .tc .vmem s e) {r : Rect s} {w} (S : Finset m.view.ty.Idx) (f G : m.view.ty.Contents (Elt F))
    (hS : (m.access r).set = S) (hw : w = (m.access r).read (Elt F) G) {hx hm} {α : Type} {Q : α → sProp 𝕄}
    {k : PUnit → Prog (TpuEff nD τ sig (Elt F) Λ₀ .tc) α} :
    ((m.view.loc (c : Thread nD τ) ↦[S]{fullShare} f) : sProp 𝕄)
      ⊢ iprop(((m.view.loc (c : Thread nD τ) ↦[S]{fullShare} G) -∗ run c (k ⟨⟩) Q) -∗ run c (.op (.store m r w Finset.univ hx hm) k) Q) := by
  iintro H Hk
  iapply (wp_store 𝒱₀ (c : Thread nD τ) none Set.univ (m := m) (r := r) (Mk := Finset.univ) (S := S) hS.le) $$ H
  iintro H
  iapply Hk
  ihave H := (Entails.of_eq (pointsTo_congr fun i hi => write_read_on (m.access r) G f w hw i (by rw [hS]; exact hi))) $$ H
  iexact H

theorem ca_set (b : Fin 2) (off : Fin 2 → ℕ) (ho : off = ![256 * b.val, 0]) (inb : ∀ a, off a + S256x768.size a ≤ S512x768.size a) :
    (caM.access (Rect.unit (s := S512x768) off S256x768.size inb)).set = half b :=
  (View.set_slice_whole cc0_scratch1 _).trans (half_rect b off ho inb)

theorem ca_load (c : Dev nD) (b : Fin 2) (f : FVec F S512x768 .bf16) {off : Fin 2 → ℕ} (ho : off = ![256 * b.val, 0])
    {inb : ∀ a, off a + S256x768.size a ≤ S512x768.size a} {hl} {α : Type} {Q : α → sProp 𝕄}
    {k : FVec F S256x768 .bf16 → Prog (TpuEff nD τ sig (Elt F) Λ₀ .tc) α} :
    caHalf c b f ⊢ iprop((∀ v, caHalf c b f -∗ run c (k v) Q)
      -∗ run c (.op (.load caM (Rect.unit (s := S512x768) off S256x768.size inb).toLoadRect hl) k) Q) := by
  unfold caHalf
  iintro H Hk
  iapply (part_load c caM (half b) f (ca_set b off ho inb)) $$ H
  iintro H
  iapply Hk
  iexact H

theorem ca_store (c : Dev nD) (I : Inputs F) (b : Fin 2) (f : FVec F S512x768 .bf16) {off : Fin 2 → ℕ} (ho : off = ![256 * b.val, 0])
    {inb : ∀ a, off a + S256x768.size a ≤ S512x768.size a} {w hx hm} (hw : w = k0_pay22 (woB I) (attnHalf I b)) {α : Type} {Q : α → sProp 𝕄}
    {k : PUnit → Prog (TpuEff nD τ sig (Elt F) Λ₀ .tc) α} :
    caHalf c b f ⊢ iprop((caHalf c b (castAll I) -∗ run c (k ⟨⟩) Q)
      -∗ run c (.op (.store caM (Rect.unit (s := S512x768) off S256x768.size inb) w Finset.univ hx hm) k) Q) :=
  part_store c caM (half b) f (castAll I) (ca_set b off ho inb) (hw.trans (cast_read I b off ho inb))

/-- The load of a whole batch member's attention. -/
theorem at_load (c : Dev nD) (I : Inputs F) (b : Fin 2) {off : Fin 2 → ℕ} (ho : off = ![0, 256 * b.val])
    {inb : ∀ a, off a + S512x256.size a ≤ S512x512.size a} {hl} {α : Type} {Q : α → sProp 𝕄}
    {k : FVec F S512x256 .bf16 → Prog (TpuEff nD τ sig (Elt F) Λ₀ .tc) α} :
    stAt c I (8 * b.val + 8) ⊢ iprop((stAt c I (8 * b.val + 8) -∗ run c (k (attnHalf I b)) Q)
      -∗ run c (.op (.load atM (Rect.unit (s := S512x512) off S512x256.size inb).toLoadRect hl) k) Q) := by
  unfold stAt filled
  iintro ⟨%f, %hf, H⟩ Hk
  iapply (wp_load 𝒱₀ (c : Thread nD τ) none Set.univ (m := atM) (Finset.subset_univ _)) $$ H
  iintro H
  rw [attn_half I b off ho inb f fun i hi => hf i (by
    have h0 : (i 0).val < 512 := (i 0).isLt
    unfold atPart; omega)]
  iapply Hk
  iexists f
  isplitr; · ipureintro; exact hf
  iexact H

theorem part7 (c : Dev nD) (I : Inputs F) (f) (Kt : _ → sProp 𝕄) :
    iprop(stAt c I 5 ∗ caHalf c 0 f ∗ (stAt c I 8 ∗ caHalf c 0 (castAll I) -∗ Kt ⟨⟩))
      ⊢ run c (k0_part7 (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8 (woB I) (qT I) (kT I) (vT I) (k0_pay18 (qT I) (kT I) (vT I))) Kt := by
  simp only [k0_part7_eq_skeleton]; unfold k0_part7_skel
  simp only [Prog.lift, Prog.bind_op, Prog.bind_ret, Prog.pure_eq_ret]
  iintro ⟨H, Hc, Hk⟩
  iapply (at_store c I 5 0 rfl (head_50 I)) $$ H; iintro H
  iapply (filled_load c atM atPart (attnAll I) 6) $$ H; iintro %_ H
  iapply (at_store c I 6 0 rfl (head_60 I)) $$ H; iintro H
  iapply (filled_load c atM atPart (attnAll I) 7) $$ H; iintro %_ H
  iapply (at_store c I 7 0 rfl (head_70 I)) $$ H; iintro H
  iapply (at_load c I 0 rfl) $$ H; iintro H
  iapply (ca_load c 0 f rfl) $$ Hc; iintro %_ Hc
  iapply (ca_store c I 0 f rfl rfl) $$ Hc; iintro Hc
  iapply (run_ret c); iapply Hk
  isplitl [H] <;> iassumption

end Cert.KernelIdealProof

end
-- ==== Proof.BodyB.lean ====
/-
# The body from the barrier to the device's own part

The wait for the seven others, the eight blocks of the second batch member, and the copies of the partial product.
-/
module

public import proofs.«01_k».proof.Proof.BodyA

@[expose] public section

noncomputable section

namespace Cert.KernelIdealProof

open Cert.KernelIdeal Cert.KernelIdeal.Gen Cert.Fam

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (J : Dev nD → Inputs F) (K : Dev nD × CI → ℕ)

/-! ## The barrier -/

theorem off_erase (c : Dev nD) (A : Fin 8 → sProp 𝕄) : (bigSep (Finset.univ.erase c) A : sProp 𝕄) ⊢ bigSep Finset.univ (off c A) := by
  rw [bigSep_univ_at (off c A) c, off_self,
    bigSep_congr (s := Finset.univ.erase c) (Φ := off c A) (Ψ := A) fun t ht => off_ne (Finset.mem_erase.mp ht).1 A]
  iintro H
  isplitr; · iempintro
  iexact H

/-- The rights to one copy of the partial product and of the sum. -/
def tok01 (c : Dev nD) (t : Fin 8) : sProp 𝕄 := iprop(dutyTok ER (xCell 0 t c) 0 0 ∗ dutyTok ER (xCell 1 c t) 0 0)
def tok23 (c : Dev nD) (t : Fin 8) : sProp 𝕄 := iprop(dutyTok ER (xCell 2 t c) 0 0 ∗ dutyTok ER (xCell 3 c t) 0 0)

theorem deal (c : Dev nD) : iprop(bigSep Finset.univ (off c (tok01 (F := F) c)) ∗ bigSep Finset.univ (off c (tok23 (F := F) c))
      ∗ bigSep (Finset.univ.erase c) (barPay (F := F) c))
    ⊢ iprop(bigSep Finset.univ (off c (sendRs (F := F) c)) ∗ bigSep Finset.univ (off c (sendAg (F := F) c))) := by
  refine (BIClass.sep_mono (BI.Entails.refl _) (BIClass.sep_mono (BI.Entails.refl _) (off_erase c _))).trans ?_
  rw [← bigSep_sep', ← bigSep_sep', ← bigSep_sep']
  refine bigSep_mono fun t _ => (show _ ⊢ (_ : sProp 𝕄) from ?_)
  by_cases h : t = c
  · subst h
    rw [off_self, off_self, off_self, off_self, off_self]
    iintro -
    isplitl <;> iempintro
  · rw [off_ne h, off_ne h, off_ne h, off_ne h, off_ne h]
    unfold tok01 tok23 barPay sendRs sendAg
    iintro ⟨⟨H0, H1⟩, ⟨H2, H3⟩, H4, H5⟩
    isplitl [H0 H1 H4]
    · isplitl [H0]; · iexact H0
      isplitl [H1] <;> iassumption
    · isplitl [H2]; · iexact H2
      isplitl [H3] <;> iassumption

theorem bar_wait (c : Dev nD) {α : Type} {Q : α → sProp 𝕄} {k : PUnit → Prog (TpuEff nD τ sig (Elt F) Λ₀ .tc) α} {k' : ℕ} (hk : k' = 7) :
    iprop(records J K ∗ levAts L lv ∗ cred (tallyAt (barCell c) () 7) ∗ atPos ER (barCell c) 0 ∅ 0 ∗ stBar (F := F) c 8
        ∗ bigSep Finset.univ (off c (tok01 (F := F) c)) ∗ bigSep Finset.univ (off c (tok23 (F := F) c)))
      ⊢ iprop((stRs J c 0 ∗ bigSep Finset.univ (off c (sendAg (F := F) c)) ∗ semVal (barCell c) 0 -∗ run c (k ⟨⟩) Q)
        -∗ run c (.op (.semWait barS k') k) Q) := by
  unfold stBar stRs
  rw [rest_done, add_zero, mix_zero]
  iintro ⟨#Hr, #Hl, Hc, Hat, ⟨-, HO⟩, H1, H2⟩ Hk
  iapply (step_barrier J K c (rest (oX 3 c) 0 + rest (oX 1 c) 0) (above_add (above_x (by decide)) (above_x (by decide))) hk) $$ [Hc Hat HO]
  · isplitr; · iexact Hr
    isplitr; · iexact Hl
    isplitl [Hc]; · iexact Hc
    isplitl [Hat] <;> iassumption
  iintro ⟨Hp, Hs, HO⟩
  ihave H := (deal (F := F) c) $$ [H1 H2 Hp]
  · isplitl [H1]; · iexact H1
    isplitl [H2] <;> iassumption
  icases H with ⟨HR, HA⟩
  iapply Hk
  isplitl [HR HO]; · isplitl [HR] <;> iassumption
  isplitl [HA] <;> iassumption

/-- The four row groups of one batch member, one by one. -/
theorem ca_four (c : Dev nD) (b : Fin 2) (f : FVec F S512x768 .bf16) :
    caHalf c b f = iprop(caPts c (quad b 0) f ∗ caPts c (quad b 1) f ∗ caPts c (quad b 2) f ∗ caPts c (quad b 3) f) := by
  rw [ca_quads, show (Finset.univ : Finset (Fin 4)) = {0, 1, 2, 3} from rfl, bigSep_insert (by decide), bigSep_insert (by decide),
    bigSep_insert (by decide), bigSep_singleton]
  rfl

theorem part8 (c : Dev nD) (Kt : _ → sProp 𝕄) :
    iprop(records J K ∗ levAts L lv ∗ (cred (tallyAt (barCell c) () 7) ∗ atPos ER (barCell c) 0 ∅ 0 ∗ stBar (F := F) c 8
        ∗ bigSep Finset.univ (off c (tok01 (F := F) c)) ∗ bigSep Finset.univ (off c (tok23 (F := F) c)))
        ∗ caHalf c 0 (castAll (J c)) ∗ stAt c (J c) 8
        ∗ (stRs J c 4 ∗ bigSep Finset.univ (off c (sendAg (F := F) c)) ∗ semVal (barCell c) 0 ∗ stAt c (J c) 9
          -∗ Kt ⟨k0_pay24 (vT (J c)), k0_pay25 (qT (J c)) (kT (J c)), k0_pay26 (qT (J c)) (kT (J c))⟩))
      ⊢ run c (k0_part8 (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8 c (myWord c) barArr (qT (J c)) (kT (J c)) (vT (J c))) Kt := by
  rw [ca_four]
  simp only [k0_part8_eq_skeleton]; unfold k0_part8_skel
  simp -zeta only [semWaitWord, Prog.lift, Prog.bind_op, Prog.bind_ret, Prog.pure_eq_ret]
  iintro ⟨#Hr, #Hl, Hb, ⟨C0, C1, C2, C3⟩, Hat, Hk⟩
  iapply (bar_wait J K c (by decide)) $$ [Hb]
  · icases Hb with ⟨Hc, Hp, Hb, H1, H2⟩
    isplitr; · iexact Hr
    isplitr; · iexact Hl
    isplitl [Hc]; · iexact Hc
    isplitl [Hp]; · iexact Hp
    isplitl [Hb]; · iexact Hb
    isplitl [H1] <;> iassumption
  iintro ⟨Hs, Ha, Hv⟩
  iapply (rs_block J K c 0 (by revert c; decide) (fun _ => Fin.ext k0_dev8_eq) rfl (k0_off1_eq c) (k0_off2_eq c) rfl) $$ [Hs C0]
  · isplitr; · iexact Hr
    isplitl [Hs]; · iexact Hs
    iexact C0
  iintro Hs
  iapply (rs_block J K c 1 (by revert c; decide) (fun _ => Fin.ext k0_dev9_eq) rfl (k0_off3_eq c) (k0_off4_eq c) rfl) $$ [Hs C1]
  · isplitr; · iexact Hr
    isplitl [Hs]; · iexact Hs
    iexact C1
  iintro Hs
  iapply (rs_block J K c 2 (by revert c; decide) (fun _ => Fin.ext k0_dev10_eq) rfl (k0_off5_eq c) (k0_off6_eq c) rfl) $$ [Hs C2]
  · isplitr; · iexact Hr
    isplitl [Hs]; · iexact Hs
    iexact C2
  iintro Hs
  iapply (rs_block J K c 3 (by revert c; decide) (fun _ => Fin.ext k0_dev11_eq) rfl (k0_off7_eq c) (k0_off8_eq c) rfl) $$ [Hs C3]
  · isplitr; · iexact Hr
    isplitl [Hs]; · iexact Hs
    iexact C3
  iintro Hs
  iapply (filled_load c atM atPart (attnAll (J c)) 8) $$ Hat; iintro %_ Hat
  iapply (at_store c (J c) 0 1 rfl (head_01 (J c))) $$ Hat; iintro Hat
  iapply (run_ret c); iapply Hk
  isplitl [Hs]; · iexact Hs
  isplitl [Ha]; · iexact Ha
  isplitl [Hv] <;> iassumption

theorem part9 (c : Dev nD) (I : Inputs F) (Kt : _ → sProp 𝕄) :
    iprop(stAt c I 9 ∗ (stAt c I 12 -∗ Kt ⟨k0_pay30 (qT I), k0_pay31 (kT I), k0_pay32 (vT I)⟩))
      ⊢ run c (k0_part9 (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8 (qT I) (kT I) (vT I) (k0_pay24 (vT I)) (k0_pay25 (qT I) (kT I)) (k0_pay26 (qT I) (kT I))) Kt := by
  simp only [k0_part9_eq_skeleton]; unfold k0_part9_skel
  simp only [Prog.lift, Prog.bind_op, Prog.bind_ret, Prog.pure_eq_ret]
  iintro ⟨H, Hk⟩
  iapply (filled_load c atM atPart (attnAll I) 9) $$ H; iintro %_ H
  iapply (at_store c I 1 1 rfl (head_11 I)) $$ H; iintro H
  iapply (filled_load c atM atPart (attnAll I) 10) $$ H; iintro %_ H
  iapply (at_store c I 2 1 rfl (head_21 I)) $$ H; iintro H
  iapply (filled_load c atM atPart (attnAll I) 11) $$ H; iintro %_ H
  iapply (at_store c I 3 1 rfl (head_31 I)) $$ H; iintro H
  iapply (run_ret c); iapply Hk; iexact H

theorem part10 (c : Dev nD) (I : Inputs F) (Kt : _ → sProp 𝕄) :
    iprop(stAt c I 12 ∗ (∀ v, stAt c I 14 -∗ Kt ⟨k0_pay35 (qT I) (kT I) (vT I), v⟩))
      ⊢ run c (k0_part10 (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8 (qT I) (kT I) (vT I) (k0_pay30 (qT I)) (k0_pay31 (kT I)) (k0_pay32 (vT I))) Kt := by
  simp only [k0_part10_eq_skeleton]; unfold k0_part10_skel
  simp only [Prog.lift, Prog.bind_op, Prog.bind_ret, Prog.pure_eq_ret]
  iintro ⟨H, Hk⟩
  iapply (filled_load c atM atPart (attnAll I) 12) $$ H; iintro %_ H
  iapply (at_store c I 4 1 rfl (head_41 I)) $$ H; iintro H
  iapply (filled_load c atM atPart (attnAll I) 13) $$ H; iintro %_ H
  iapply (at_store c I 5 1 rfl (head_51 I)) $$ H; iintro H
  iapply (filled_load c atM atPart (attnAll I) 14) $$ H; iintro %_ H
  iapply (run_ret c); iapply Hk; iexact H

theorem part11 (c : Dev nD) (f w) (Kt : _ → sProp 𝕄) :
    iprop(records J K ∗ stRs J c 4 ∗ stAt c (J c) 14 ∗ caHalf c 1 f
        ∗ (stRs J c 7 ∗ stAt c (J c) 16 ∗ caPts c (quad 1 3) (castAll (J c)) -∗ ∀ r, Kt r))
      ⊢ run c (k0_part11 (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8 c (myWord c) (woB (J c)) (qT (J c)) (kT (J c)) (vT (J c)) (k0_pay35 (qT (J c)) (kT (J c)) (vT (J c))) w) Kt := by
  simp only [k0_part11_eq_skeleton]; unfold k0_part11_skel
  simp -zeta only [Prog.lift, Prog.bind_op, Prog.bind_ret, Prog.pure_eq_ret]
  iintro ⟨#Hr, Hs, H, Hc, Hk⟩
  iapply (at_store c (J c) 6 1 rfl (head_61 (J c))) $$ H; iintro H
  iapply (filled_load c atM atPart (attnAll (J c)) 15) $$ H; iintro %_ H
  iapply (at_store c (J c) 7 1 rfl (head_71 (J c))) $$ H; iintro H
  iapply (at_load c (J c) 1 rfl) $$ H; iintro H
  iapply (ca_load c 1 f rfl) $$ Hc; iintro %_ Hc
  iapply (ca_store c (J c) 1 f rfl (cast_hi _ _)) $$ Hc; iintro Hc
  ihave Hc := (Entails.of_eq (ca_four c 1 (castAll (J c)))) $$ Hc
  icases Hc with ⟨C0, C1, C2, C3⟩
  iapply (rs_block J K c 4 (by revert c; decide) (fun _ => Fin.ext k0_dev12_eq) rfl (k0_off9_eq c) (k0_off10_eq c) rfl) $$ [Hs C0]
  · isplitr; · iexact Hr
    isplitl [Hs]; · iexact Hs
    iexact C0
  iintro Hs
  iapply (rs_block J K c 5 (by revert c; decide) (fun _ => Fin.ext k0_dev13_eq) rfl (k0_off11_eq c) (k0_off12_eq c) rfl) $$ [Hs C1]
  · isplitr; · iexact Hr
    isplitl [Hs]; · iexact Hs
    iexact C1
  iintro Hs
  iapply (rs_block J K c 6 (by revert c; decide) (fun _ => Fin.ext k0_dev14_eq) rfl (k0_off13_eq c) (k0_off14_eq c) rfl) $$ [Hs C2]
  · isplitr; · iexact Hr
    isplitl [Hs]; · iexact Hs
    iexact C2
  iintro Hs
  iapply (run_ret c)
  ispecialize Hk $$ [Hs H C3]
  · isplitl [Hs]; · iexact Hs
    isplitl [H]; · iexact H
    iexact C3
  iapply Hk

/-! ## The device's own part, and the parts of the others -/

/-- What is known of a row's entries once all its copies are issued. -/
theorem sent_own (k : Fin 4) (c : Dev nD) :
    (bigSep Finset.univ (sent J k c) : sProp 𝕄) = iprop(pay J k c c ∗ bigSep Finset.univ (off c (credX (F := F) k c))) := by
  unfold sent
  rw [bigSep_sep', only_all c (fun q => pay J k q c)]

/-- A row's waits are the device's own. -/
def atP (k : Fin 4) (c : Dev nD) (q : Fin 8) : sProp 𝕄 := atPos ER (xCell k q c) 0 ∅ 0

theorem pend_intro (k : Fin 4) (c : Dev nD) :
    iprop(bigSep Finset.univ (sent J k c) ∗ bigSep Finset.univ (atP (F := F) k c)) = (bigSep Finset.univ (pend J k c) : sProp 𝕄) :=
  (bigSep_sep' _ _ _).symm

theorem ca_rows (c : Dev nD) (off : Fin 2 → ℕ) (ho : off = ![64 * c.val, 0]) (inb : ∀ a, off a + S64x768.size a ≤ S512x768.size a) :
    (caM.access (Rect.unit (s := S512x768) off S64x768.size inb)).set = rows c :=
  (View.set_slice_whole cc0_scratch1 _).trans (rows_rect c off ho inb)
theorem ag_rows (c : Dev nD) (off : Fin 2 → ℕ) (ho : off = ![64 * c.val, 0]) (inb : ∀ a, off a + S64x768.size a ≤ S512x768.size a) :
    (agM.access (Rect.unit (s := S512x768) off S64x768.size inb)).set = rows c :=
  (View.set_slice_whole cc0_scratch3 _).trans (rows_rect c off ho inb)
theorem rs_slot (c : Dev nD) (off : Fin 3 → ℕ) (ho : off = ![c.val, 0, 0]) (inb : ∀ a, off a + S1x64x768.size a ≤ S8x64x768.size a) :
    (rsM.access (Rect.unit (s := S8x64x768) off S1x64x768.size inb)).set = slot c :=
  (View.set_slice_whole cc0_scratch2 _).trans (slot_rect c off ho inb)

theorem part12 (c : Dev nD) (f w) (Kt : _ → sProp 𝕄) :
    iprop(records J K ∗ levAts L lv ∗ stRs J c 7 ∗ caPts c 7 (castAll (J c)) ∗ rsPts c c f ∗ bigSep Finset.univ (off c (credX (F := F) 1 c))
        ∗ bigSep Finset.univ (atP (F := F) 1 c)
        ∗ (bigSep Finset.univ (sent J 0 c) ∗ stW J 1 c (rest (oX 3 c) 0) 7 -∗ Kt 7#32))
      ⊢ run c (k0_part12 (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8 c (myWord c) w) Kt := by
  simp only [k0_part12_eq_skeleton]; unfold k0_part12_skel
  simp -zeta only [Prog.lift, Prog.bind_op, Prog.bind_ret, Prog.pure_eq_ret]
  iintro ⟨#Hr, #Hl, Hs, C7, Hf, Hx, Hp, Hk⟩
  iapply (rs_block J K c 7 (by revert c; decide) (fun _ => Fin.ext k0_dev15_eq) rfl (k0_off15_eq c) (k0_off16_eq c) rfl) $$ [Hs C7]
  · isplitr; · iexact Hr
    isplitl [Hs]; · iexact Hs
    iexact C7
  iintro Hs
  ihave Hs := (show stRs J c 8 ⊢ iprop((caPts c c (castAll (J c)) ∗ bigSep Finset.univ (off c (credX (F := F) 0 c))) ∗ owesE c (rest (oX 3 c) 0)) from by
    unfold stRs; rw [mix_all, sent_own, rest_done, add_zero, pay_0]) $$ [Hs]
  · iexact Hs
  icases Hs with ⟨⟨Hc, Hs⟩, HO⟩
  unfold caPts rsPts
  iapply (part_load c caM (rows c) (castAll (J c)) (ca_rows c _ (k0_off17_eq c) _)) $$ Hc; iintro Hc
  iapply (part_load c rsM (slot c) f (rs_slot c _ (k0_off18_eq c) _)) $$ Hf; iintro Hf
  iapply (part_store c rsM (slot c) f (rsAll J c) (rs_slot c _ (k0_off18_eq c) _) (rs_own J c _ (k0_off17_eq c) _ _ (k0_off18_eq c) _)) $$ Hf; iintro Hf
  ihave Hq := (show iprop((rsPts c c (rsAll J c) ∗ bigSep Finset.univ (off c (credX (F := F) 1 c))) ∗ bigSep Finset.univ (atP (F := F) 1 c))
      ⊢ bigSep Finset.univ (mix (pend J 1 c) (done J 1 c) 0) from by
    rw [mix_zero, ← pend_intro, sent_own, pay_1]) $$ [Hf Hx Hp]
  · isplitl [Hf Hx]
    · isplitl [Hf]
      · unfold rsPts; iexact Hf
      · iexact Hx
    iexact Hp
  ihave Hw := (show iprop(bigSep Finset.univ (mix (pend J 1 c) (done J 1 c) 0) ∗ owesE c (rest (oX 3 c) 0)) ⊢ stW J 1 c (rest (oX 3 c) 0) 0 from by
    unfold stW; exact BI.Entails.refl _) $$ [Hq HO]
  · isplitl [Hq] <;> iassumption
  iapply (wait_block J K 1 c 0 (rest (oX 3 c) 0) (above_x (by decide)) (by revert c; decide) rfl rfl (rsAt_credit _ _ _)) $$ [Hw]
  · isplitr; · iexact Hr
    isplitr; · iexact Hl
    iexact Hw
  iintro Hw
  iapply (wait_block J K 1 c 1 (rest (oX 3 c) 0) (above_x (by decide)) (by revert c; decide) rfl rfl (rsAt_credit _ _ _)) $$ [Hw]
  · isplitr; · iexact Hr
    isplitr; · iexact Hl
    iexact Hw
  iintro Hw
  iapply (wait_block J K 1 c 2 (rest (oX 3 c) 0) (above_x (by decide)) (by revert c; decide) rfl rfl (rsAt_credit _ _ _)) $$ [Hw]
  · isplitr; · iexact Hr
    isplitr; · iexact Hl
    iexact Hw
  iintro Hw
  iapply (wait_block J K 1 c 3 (rest (oX 3 c) 0) (above_x (by decide)) (by revert c; decide) rfl rfl (rsAt_credit _ _ _)) $$ [Hw]
  · isplitr; · iexact Hr
    isplitr; · iexact Hl
    iexact Hw
  iintro Hw
  iapply (wait_block J K 1 c 4 (rest (oX 3 c) 0) (above_x (by decide)) (by revert c; decide) rfl rfl (rsAt_credit _ _ _)) $$ [Hw]
  · isplitr; · iexact Hr
    isplitr; · iexact Hl
    iexact Hw
  iintro Hw
  iapply (wait_block J K 1 c 5 (rest (oX 3 c) 0) (above_x (by decide)) (by revert c; decide) rfl rfl (rsAt_credit _ _ _)) $$ [Hw]
  · isplitr; · iexact Hr
    isplitr; · iexact Hl
    iexact Hw
  iintro Hw
  iapply (wait_block J K 1 c 6 (rest (oX 3 c) 0) (above_x (by decide)) (by revert c; decide) rfl rfl (rsAt_credit _ _ _)) $$ [Hw]
  · isplitr; · iexact Hr
    isplitr; · iexact Hl
    iexact Hw
  iintro Hw
  iapply (run_ret c)
  iapply Hk
  isplitl [Hs Hc]
  · iapply (show iprop(caPts c c (castAll (J c)) ∗ bigSep Finset.univ (off c (credX (F := F) 0 c))) ⊢ bigSep Finset.univ (sent J 0 c) from by
      rw [sent_own, pay_0])
    isplitl [Hc]
    · unfold caPts; iexact Hc
    · iexact Hs
  iexact Hw

end Cert.KernelIdealProof

end
-- ==== Proof.BodyC.lean ====
/-
# The body to its end

The sum of the eight parts, its copies to the other devices, the result as the sums arrive, and the waits for the
device's own copies.
-/
module

public import proofs.«01_k».proof.Proof.BodyB

@[expose] public section

noncomputable section

namespace Cert.KernelIdealProof

open Cert.KernelIdeal Cert.KernelIdeal.Gen Cert.Fam

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (J : Dev nD → Inputs F) (K : Dev nD × CI → ℕ)

/-! ## The sum -/

theorem rs_whole (c : Dev nD) (f : FVec F S8x64x768 .bf16) : buf c cc0_scratch2 f = bigSep Finset.univ fun q => rsPts c q f :=
  pts_parts (ℓ := rsM.view.loc (c : Thread nD τ)) Finset.univ slot (fun i => by
    refine iff_of_true (Finset.mem_univ i) ⟨⟨(i 0).val, (i 0).isLt⟩, mem_slot.mpr rfl⟩) (fun t t' h => slot_disjoint h) fullShare f

theorem rows_all (i : S512x768.Idx) : i ∈ (Finset.univ : Finset S512x768.Idx) ↔ ∃ t, i ∈ rows t := by
  have h : (i 0).val < 512 := (i 0).isLt
  exact iff_of_true (Finset.mem_univ i) ⟨⟨(i 0).val / 64, by omega⟩, mem_rows.mpr rfl⟩

theorem ag_whole (c : Dev nD) (f : FVec F S512x768 .bf16) : buf c cc0_scratch3 f = bigSep Finset.univ fun q => agPts c q f :=
  pts_parts (ℓ := agM.view.loc (c : Thread nD τ)) Finset.univ rows rows_all (fun t t' h => rows_disjoint h) fullShare f

theorem ca_whole (c : Dev nD) (f : FVec F S512x768 .bf16) : buf c cc0_scratch1 f = bigSep Finset.univ fun q => caPts c q f :=
  pts_parts (ℓ := caM.view.loc (c : Thread nD τ)) Finset.univ rows rows_all (fun t t' h => rows_disjoint h) fullShare f

/-- All of one row's semaphores at zero. -/
def sems (k : Fin 4) (c : Dev nD) : sProp 𝕄 := bigSep Finset.univ fun q => semVal (xCell k q c) 0

theorem done_all (k : Fin 4) (c : Dev nD) :
    (bigSep Finset.univ (done J k c) : sProp 𝕄) = iprop(bigSep Finset.univ (fun q => pay J k q c) ∗ sems (F := F) k c) := bigSep_sep' _ _ _

/-- What is left of the sum beside the shares the copies read. -/
def asRest (c : Dev nD) (f : FVec F S64x768 .bf16) : sProp 𝕄 :=
  asM.view.loc (c : Thread nD τ) ↦[Finset.univ]{Transfers.shareDrop fullShare 8} (f : Buf (Elt F) (asM.view.loc (c : Thread nD τ)))

theorem as_split (c : Dev nD) (f : FVec F S64x768 .bf16) : buf c cc0_scratch4 f ⊢ iprop(asRest c f ∗ bigSep Finset.univ (fun q => asTok c q f)) :=
  Transfers.pointsTo_toks_split fullShare 8
theorem as_join (c : Dev nD) (f : FVec F S64x768 .bf16) : iprop(asRest c f ∗ bigSep Finset.univ (fun q => asTok c q f)) ⊢ buf c cc0_scratch4 f :=
  Transfers.pointsTo_toks_join fullShare 8

/-- A family over the eight devices, one by one. -/
theorem eight (A : Fin 8 → sProp 𝕄) : (bigSep Finset.univ A : sProp 𝕄) = iprop(A 0 ∗ A 1 ∗ A 2 ∗ A 3 ∗ A 4 ∗ A 5 ∗ A 6 ∗ A 7) := by
  rw [show (Finset.univ : Finset (Fin 8)) = {0, 1, 2, 3, 4, 5, 6, 7} from rfl, bigSep_insert (by decide), bigSep_insert (by decide),
    bigSep_insert (by decide), bigSep_insert (by decide), bigSep_insert (by decide), bigSep_insert (by decide), bigSep_insert (by decide), bigSep_singleton]
  rfl

theorem rs_arrived (c : Dev nD) {O : CellTallies nD τ sig Unit} :
    stW J 1 c O 8 ⊢ iprop(buf c cc0_scratch2 (rsAll J c) ∗ sems (F := F) 1 c ∗ owesE c O) := by
  unfold stW
  rw [mix_all, done_all, rs_whole]
  simp only [pay_1]
  iintro ⟨⟨H, Hv⟩, HO⟩
  isplitl [H]; · iexact H
  isplitl [Hv] <;> iassumption

theorem part13 (c : Dev nD) (f g) (Kt : _ → sProp 𝕄) :
    iprop(records J K ∗ levAts L lv ∗ stW J 1 c (rest (oX 3 c) 0) 7 ∗ buf c cc0_scratch4 g ∗ agPts c c f ∗ bigSep Finset.univ (off c (sendAg (F := F) c))
        ∗ (stAg J c 4 ∗ (asTok c 4 (agSrc J c) ∗ asTok c 5 (agSrc J c) ∗ asTok c 6 (agSrc J c) ∗ asTok c 7 (agSrc J c)) ∗ asRest c (agSrc J c)
            ∗ agPts c c (agAll J) ∗ buf c cc0_scratch2 (rsAll J c) ∗ sems (F := F) 1 c -∗ ∀ r, Kt r))
      ⊢ run c (k0_part13 (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8 c (myWord c) 7#32) Kt := by
  simp only [k0_part13_eq_skeleton]; unfold k0_part13_skel
  simp -zeta only [Prog.lift, Prog.bind_op, Prog.bind_ret, Prog.pure_eq_ret]
  iintro ⟨#Hr, #Hl, Hw, Hg, Hf, Ha, Hk⟩
  iapply (wait_block J K 1 c 7 (rest (oX 3 c) 0) (above_x (by decide)) (by revert c; decide) rfl rfl (rsAt_credit _ _ _)) $$ [Hw]
  · isplitr; · iexact Hr
    isplitr; · iexact Hl
    iexact Hw
  iintro Hw
  ihave Hw := (rs_arrived J c) $$ [Hw]
  · iexact Hw
  icases Hw with ⟨Hw, Hv, HO⟩
  iapply (wp_load 𝒱₀ (c : Thread nD τ) none Set.univ (m := rsM) (Finset.subset_univ _)) $$ Hw; iintro Hw
  iapply (wp_load 𝒱₀ (c : Thread nD τ) none Set.univ (m := asM) (Finset.subset_univ _)) $$ Hg; iintro Hg
  iapply (wp_store 𝒱₀ (c : Thread nD τ) none Set.univ (m := asM)
    (r := Rect.unit (s := S64x768) ![0, 0] S64x768.size inb_S64x768_S64x768_0_0) (Mk := Finset.univ) (Finset.subset_univ _)) $$ Hg; iintro Hg
  iapply (wp_load 𝒱₀ (c : Thread nD τ) none Set.univ (m := asM) (Finset.subset_univ _)) $$ Hg; iintro Hg
  rw [show rsM.view.readAt (Elt F) (Rect.unit (s := S8x64x768) ![0, 0, 0] S8x64x768.size inb_S8x64x768_S8x64x768_0_0_0).toLoadRect (rsAll J c) = rsAll J c
      from Memref.readAt_unit_zero (Elt F) cc0_scratch2 zero3 _ _,
    show (asM.access (Rect.unit (s := S64x768) ![0, 0] S64x768.size inb_S64x768_S64x768_0_0)).write (Elt F) g (k0_pay40 (rsAll J c)) Finset.univ = agSrc J c
      from Memref.write_access_unit_zero_univ (Elt F) cc0_scratch4 zero2 _ _ _,
    show asM.view.readAt (Elt F) (Rect.unit (s := S64x768) ![0, 0] S64x768.size inb_S64x768_S64x768_0_0).toLoadRect (agSrc J c) = agSrc J c
      from Memref.readAt_unit_zero (Elt F) cc0_scratch4 zero2 _ _]
  unfold agPts
  iapply (part_load c agM (rows c) f (ag_rows c _ (k0_off17_eq c) _)) $$ Hf; iintro Hf
  iapply (part_store c agM (rows c) f (agAll J) (ag_rows c _ (k0_off17_eq c) _) ((ag_own _).trans (ag_read J c _ (k0_off17_eq c) _))) $$ Hf; iintro Hf
  ihave Hg := (as_split (F := F) c (agSrc J c)) $$ [Hg]
  · iexact Hg
  icases Hg with ⟨Hd, Hg⟩
  ihave Hg := (Entails.of_eq (eight (F := F) (fun q => asTok c q (agSrc J c)))) $$ Hg
  icases Hg with ⟨T0, T1, T2, T3, T4⟩
  ihave Hs := (show iprop(bigSep Finset.univ (off c (sendAg (F := F) c)) ∗ owesE c (rest (oX 3 c) 0)) ⊢ stAg J c 0 from by
    unfold stAg; rw [mix_zero]) $$ [Ha HO]
  · isplitl [Ha] <;> iassumption
  iapply (ag_block J K c 0 (by revert c; decide) (fun _ => Fin.ext k0_dev16_eq) rfl (k0_off19_eq c) (k0_off20_eq c)) $$ [Hs T0]
  · isplitr; · iexact Hr
    isplitl [Hs]; · iexact Hs
    iexact T0
  iintro Hs
  iapply (ag_block J K c 1 (by revert c; decide) (fun _ => Fin.ext k0_dev17_eq) rfl (k0_off21_eq c) (k0_off22_eq c)) $$ [Hs T1]
  · isplitr; · iexact Hr
    isplitl [Hs]; · iexact Hs
    iexact T1
  iintro Hs
  iapply (ag_block J K c 2 (by revert c; decide) (fun _ => Fin.ext k0_dev18_eq) rfl (k0_off23_eq c) (k0_off24_eq c)) $$ [Hs T2]
  · isplitr; · iexact Hr
    isplitl [Hs]; · iexact Hs
    iexact T2
  iintro Hs
  iapply (ag_block J K c 3 (by revert c; decide) (fun _ => Fin.ext k0_dev19_eq) rfl (k0_off25_eq c) (k0_off26_eq c)) $$ [Hs T3]
  · isplitr; · iexact Hr
    isplitl [Hs]; · iexact Hs
    iexact T3
  iintro Hs
  iapply (run_ret c)
  ispecialize Hk $$ [Hs T4 Hd Hf Hw Hv]
  · isplitl [Hs]; · iexact Hs
    isplitl [T4]; · iexact T4
    isplitl [Hd]; · iexact Hd
    isplitl [Hf]; · iexact Hf
    isplitl [Hw] <;> iassumption
  iapply Hk

/-! ## The result -/

/-- One member of the waits already done, read. -/
theorem stW_peek (k : Fin 4) (c : Dev nD) (q : Fin 8) {O : CellTallies nD τ sig Unit} :
    stW J k c O (q.val + 1) ⊢ iprop(pay J k q c ∗ (pay J k q c -∗ stW J k c O (q.val + 1))) := by
  unfold stW
  rw [bigSep_univ_at (mix (pend J k c) (done J k c) (q.val + 1)) q,
    show mix (pend J k c) (done J k c) (q.val + 1) q = iprop(pay J k q c ∗ semVal (xCell k q c) 0) from if_pos (Nat.lt_succ_self _)]
  iintro ⟨⟨⟨H, Hv⟩, Hm⟩, HO⟩
  isplitl [H]; · iexact H
  iintro H
  isplitl [H Hv Hm]
  · isplitl [H Hv]
    · isplitl [H] <;> iassumption
    iexact Hm
  iexact HO

/-- The guarded wait for device `q`'s sum, and the load of it. -/
theorem wait_read (c : Dev nD) (q : Fin 8) {cond : Prop} [Decidable cond] (hc : cond ↔ q ≠ c)
    {A : DmaSems sig S8} (hA : A = semRow 3) {s0 : Fin 1 → ℕ} (hs0 : s0 = ![q.val]) {s0i} {q0 : S1.Squeezes S_}
    {s : Shape} {src : Memref sig .tc .vmem s .bf16} {dst : Memref sig .tc .vmem s .bf16} (hN : dst.view.dmaCredit = N) {h1 h2}
    {off : Fin 2 → ℕ} (ho : off = ![64 * q.val, 0]) {inb : ∀ a, off a + S64x768.size a ≤ S512x768.size a} {hl} {α : Type} {Q : α → sProp 𝕄}
    {k : FVec F S64x768 .bf16 → Prog (TpuEff nD τ sig (Elt F) Λ₀ .tc) α} :
    iprop(records J K ∗ levAts L lv ∗ stW J 3 c 0 q.val)
      ⊢ iprop((stW J 3 c 0 (q.val + 1) -∗ run c (k (agSrc J q)) Q)
        -∗ run c (dite cond (fun _ => .op (.waitDma2 ((A.slice (Rect.unit (s := S8) s0 S1.size s0i)).squeeze S_ q0).sem src dst h1 h2) fun _ =>
              .op (.load agM (Rect.unit (s := S512x768) off S64x768.size inb).toLoadRect hl) k)
          (fun _ => .op (.load agM (Rect.unit (s := S512x768) off S64x768.size inb).toLoadRect hl) k)) Q) := by
  have hp := stW_peek J 3 c q (O := 0)
  rw [pay_3] at hp
  unfold agPts at hp
  rw [ag_read J q off ho inb]
  iintro ⟨#Hr, #Hl, Hw⟩ Hk
  iapply (wait_block J K 3 c q 0 (fun g u h => absurd h (Nat.lt_irrefl 0)) hc hA hs0 hN) $$ [Hw]
  · isplitr; · iexact Hr
    isplitr; · iexact Hl
    iexact Hw
  iintro Hw
  ihave Hw := (hp) $$ Hw
  icases Hw with ⟨H, Hw⟩
  iapply (part_load c agM (rows q) (agAll J) (ag_rows q off ho inb)) $$ H
  iintro H
  iapply Hk
  iapply Hw
  iexact H

/-- Which of the eight parts of the result, in the order they are stored. -/
def outPart (i : S2x256x768.Idx) : ℕ := 4 * (i 0).val + (i 1).val / 64

/-- With the first `n` parts stored. -/
abbrev stOut (c : Dev nD) (n : ℕ) : sProp 𝕄 := filled c outM outPart (outAll J) n

theorem out_mem (q : Fin 8) (off : Fin 3 → ℕ) (ho : off = ![q.val / 4, 64 * (q.val % 4), 0])
    (inb : ∀ a, off a + S1x64x768.size a ≤ S2x256x768.size a) (i : S2x256x768.Idx) (hi : outPart i = q.val) :
    i ∈ (outM.access (Rect.unit (s := S2x256x768) off S1x64x768.size inb)).set := by
  subst ho
  show i ∈ ((View.whole cc0_stg5_0).slice (Rect.unit (s := S2x256x768) ![q.val / 4, 64 * (q.val % 4), 0] S1x64x768.size inb)).set
  have h0 : (i 0).val < 2 := (i 0).isLt
  have h1 : (i 1).val < 256 := (i 1).isLt
  have h2 : (i 2).val < 768 := (i 2).isLt
  have := q.isLt
  unfold outPart at hi
  rw [View.set_slice_whole, Rect.mem_set_unit]
  intro a
  match a with
  | 0 => show q.val / 4 ≤ (i 0).val ∧ (i 0).val < q.val / 4 + 1; omega
  | 1 => show 64 * (q.val % 4) ≤ (i 1).val ∧ (i 1).val < 64 * (q.val % 4) + 64; omega
  | 2 => show 0 ≤ (i 2).val ∧ (i 2).val < 0 + 768; omega

theorem out_load (c : Dev nD) (n : ℕ) {r : LoadRect S2x256x768} {hl} {α : Type} {Q : α → sProp 𝕄}
    {k : (r.shape.Idx → Elt F .f32) → Prog (TpuEff nD τ sig (Elt F) Λ₀ .tc) α} :
    stOut J c n ⊢ iprop((∀ v, stOut J c n -∗ run c (k v) Q) -∗ run c (.op (.load outM r hl) k) Q) :=
  filled_load c outM outPart (outAll J) n

theorem out_store (c : Dev nD) (q : Fin 8) {off : Fin 3 → ℕ} (ho : off = ![q.val / 4, 64 * (q.val % 4), 0])
    {inb : ∀ a, off a + S1x64x768.size a ≤ S2x256x768.size a} {w hx hm} (hw : w = k0_pay42 (agSrc J q)) {α : Type} {Q : α → sProp 𝕄}
    {k : PUnit → Prog (TpuEff nD τ sig (Elt F) Λ₀ .tc) α} :
    stOut J c q.val ⊢ iprop((stOut J c (q.val + 1) -∗ run c (k ⟨⟩) Q)
      -∗ run c (.op (.store outM (Rect.unit (s := S2x256x768) off S1x64x768.size inb) w Finset.univ hx hm) k) Q) :=
  filled_store c outM outPart (outAll J) _ (hw.trans (out_read J q off ho inb)) (out_mem q off ho inb)

theorem part14 (c : Dev nD) (w) (Kt : _ → sProp 𝕄) :
    iprop(records J K ∗ levAts L lv ∗ stAg J c 4 ∗ (asTok c 4 (agSrc J c) ∗ asTok c 5 (agSrc J c) ∗ asTok c 6 (agSrc J c) ∗ asTok c 7 (agSrc J c))
        ∗ agPts c c (agAll J) ∗ bigSep Finset.univ (off c (credX (F := F) 3 c)) ∗ bigSep Finset.univ (atP (F := F) 3 c) ∗ stOut J c 0
        ∗ (bigSep Finset.univ (sent J 2 c) ∗ stW J 3 c 0 2 ∗ stOut J c 2 -∗ Kt ⟨⟩))
      ⊢ run c (k0_part14 (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8 c (myWord c) w) Kt := by
  simp only [k0_part14_eq_skeleton]; unfold k0_part14_skel
  simp -zeta only [Prog.lift, Prog.bind_op, Prog.bind_ret, Prog.pure_eq_ret]
  iintro ⟨#Hr, #Hl, Hs, ⟨T4, T5, T6, T7⟩, Hf, Hx, Hp, Ho, Hk⟩
  iapply (ag_block J K c 4 (by revert c; decide) (fun _ => Fin.ext k0_dev20_eq) rfl (k0_off27_eq c) (k0_off28_eq c)) $$ [Hs T4]
  · isplitr; · iexact Hr
    isplitl [Hs]; · iexact Hs
    iexact T4
  iintro Hs
  iapply (ag_block J K c 5 (by revert c; decide) (fun _ => Fin.ext k0_dev21_eq) rfl (k0_off29_eq c) (k0_off30_eq c)) $$ [Hs T5]
  · isplitr; · iexact Hr
    isplitl [Hs]; · iexact Hs
    iexact T5
  iintro Hs
  iapply (ag_block J K c 6 (by revert c; decide) (fun _ => Fin.ext k0_dev22_eq) rfl (k0_off31_eq c) (k0_off32_eq c)) $$ [Hs T6]
  · isplitr; · iexact Hr
    isplitl [Hs]; · iexact Hs
    iexact T6
  iintro Hs
  iapply (ag_block J K c 7 (by revert c; decide) (fun _ => Fin.ext k0_dev23_eq) rfl (k0_off33_eq c) (k0_off34_eq c)) $$ [Hs T7]
  · isplitr; · iexact Hr
    isplitl [Hs]; · iexact Hs
    iexact T7
  iintro Hs
  ihave Hs := (show stAg J c 8 ⊢ iprop(bigSep Finset.univ (sent J 2 c) ∗ owesE c 0) from by
    unfold stAg; rw [mix_all, rest_done]) $$ [Hs]
  · iexact Hs
  icases Hs with ⟨Hs, HO⟩
  ihave Hw := (show iprop(((agPts c c (agAll J) ∗ bigSep Finset.univ (off c (credX (F := F) 3 c))) ∗ bigSep Finset.univ (atP (F := F) 3 c)) ∗ owesE c 0)
      ⊢ stW J 3 c 0 0 from by
    unfold stW; rw [mix_zero, ← pend_intro, sent_own, pay_3]) $$ [Hf Hx Hp HO]
  · isplitl [Hf Hx Hp]
    · isplitl [Hf Hx]
      · isplitl [Hf] <;> iassumption
      iexact Hp
    iexact HO
  iapply (wait_read J K c 0 (by revert c; decide) rfl rfl (agAt_credit _ _) rfl) $$ [Hw]
  · isplitr; · iexact Hr
    isplitr; · iexact Hl
    iexact Hw
  iintro Hw
  iapply (out_load J c 0) $$ [Ho]
  · iexact Ho
  iintro %_ Ho
  iapply (out_store J c 0 rfl rfl) $$ [Ho]
  · iexact Ho
  iintro Ho
  iapply (wait_read J K c 1 (by revert c; decide) rfl rfl (agAt_credit _ _) rfl) $$ [Hw]
  · isplitr; · iexact Hr
    isplitr; · iexact Hl
    iexact Hw
  iintro Hw
  iapply (out_load J c 1) $$ [Ho]
  · iexact Ho
  iintro %_ Ho
  iapply (out_store J c 1 rfl rfl) $$ [Ho]
  · iexact Ho
  iintro Ho
  iapply (run_ret c); iapply Hk
  isplitl [Hs]; · iexact Hs
  isplitl [Hw]; · iexact Hw
  iexact Ho

theorem part15 (c : Dev nD) (Kt : _ → sProp 𝕄) :
    iprop(records J K ∗ levAts L lv ∗ stW J 3 c 0 2 ∗ stOut J c 2 ∗ (stW J 3 c 0 6 ∗ stOut J c 5 -∗ Kt (agSrc J 5)))
      ⊢ run c (k0_part15 (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8 (myWord c)) Kt := by
  simp only [k0_part15_eq_skeleton]; unfold k0_part15_skel
  simp -zeta only [Prog.lift, Prog.bind_op, Prog.bind_ret, Prog.pure_eq_ret]
  iintro ⟨#Hr, #Hl, Hw, Ho, Hk⟩
  iapply (wait_read J K c 2 (by revert c; decide) rfl rfl (agAt_credit _ _) rfl) $$ [Hw]
  · isplitr; · iexact Hr
    isplitr; · iexact Hl
    iexact Hw
  iintro Hw
  iapply (out_load J c 2) $$ [Ho]
  · iexact Ho
  iintro %_ Ho
  iapply (out_store J c 2 rfl rfl) $$ [Ho]
  · iexact Ho
  iintro Ho
  iapply (wait_read J K c 3 (by revert c; decide) rfl rfl (agAt_credit _ _) rfl) $$ [Hw]
  · isplitr; · iexact Hr
    isplitr; · iexact Hl
    iexact Hw
  iintro Hw
  iapply (out_load J c 3) $$ [Ho]
  · iexact Ho
  iintro %_ Ho
  iapply (out_store J c 3 rfl rfl) $$ [Ho]
  · iexact Ho
  iintro Ho
  iapply (wait_read J K c 4 (by revert c; decide) rfl rfl (agAt_credit _ _) rfl) $$ [Hw]
  · isplitr; · iexact Hr
    isplitr; · iexact Hl
    iexact Hw
  iintro Hw
  iapply (out_load J c 4) $$ [Ho]
  · iexact Ho
  iintro %_ Ho
  iapply (out_store J c 4 rfl rfl) $$ [Ho]
  · iexact Ho
  iintro Ho
  iapply (wait_read J K c 5 (by revert c; decide) rfl rfl (agAt_credit _ _) rfl) $$ [Hw]
  · isplitr; · iexact Hr
    isplitr; · iexact Hl
    iexact Hw
  iintro Hw
  iapply (run_ret c); iapply Hk
  isplitl [Hw]; · iexact Hw
  iexact Ho

/-! ## The device's own copies -/

theorem part16 (c : Dev nD) (Kt : _ → sProp 𝕄) :
    iprop(records J K ∗ levAts L lv ∗ stW J 3 c 0 6 ∗ stOut J c 5 ∗ (bigSep Finset.univ (sent J 0 c) ∗ bigSep Finset.univ (atP (F := F) 0 c))
        ∗ (bigSep Finset.univ (sent J 2 c) ∗ bigSep Finset.univ (atP (F := F) 2 c))
        ∗ (bigSep Finset.univ (done J 3 c) ∗ stOut J c 8 ∗ stE J c 2 -∗ ∀ r, Kt r))
      ⊢ run c (k0_part16 (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8 c (myWord c) (agSrc J 5)) Kt := by
  simp only [k0_part16_eq_skeleton]; unfold k0_part16_skel
  simp -zeta only [Prog.lift, Prog.bind_op, Prog.bind_ret, Prog.pure_eq_ret]
  iintro ⟨#Hr, #Hl, Hw, Ho, H0, H2, Hk⟩
  iapply (out_load J c 5) $$ [Ho]
  · iexact Ho
  iintro %_ Ho
  iapply (out_store J c 5 rfl rfl) $$ [Ho]
  · iexact Ho
  iintro Ho
  iapply (wait_read J K c 6 (by revert c; decide) rfl rfl (agAt_credit _ _) rfl) $$ [Hw]
  · isplitr; · iexact Hr
    isplitr; · iexact Hl
    iexact Hw
  iintro Hw
  iapply (out_load J c 6) $$ [Ho]
  · iexact Ho
  iintro %_ Ho
  iapply (out_store J c 6 rfl rfl) $$ [Ho]
  · iexact Ho
  iintro Ho
  iapply (wait_read J K c 7 (by revert c; decide) rfl rfl (agAt_credit _ _) rfl) $$ [Hw]
  · isplitr; · iexact Hr
    isplitr; · iexact Hl
    iexact Hw
  iintro Hw
  iapply (out_load J c 7) $$ [Ho]
  · iexact Ho
  iintro %_ Ho
  iapply (out_store J c 7 rfl rfl) $$ [Ho]
  · iexact Ho
  iintro Ho
  ihave Hw := (show stW J 3 c 0 8 ⊢ iprop(bigSep Finset.univ (done J 3 c) ∗ owesE c 0) from by
    unfold stW; rw [mix_all]) $$ [Hw]
  · iexact Hw
  icases Hw with ⟨Hw, HO⟩
  ihave He := (show iprop(((bigSep Finset.univ (sent J 0 c) ∗ bigSep Finset.univ (atP (F := F) 0 c))
        ∗ (bigSep Finset.univ (sent J 2 c) ∗ bigSep Finset.univ (atP (F := F) 2 c))) ∗ owesE c 0) ⊢ stE J c 0 from by
    unfold stE; rw [mix_zero, bigSep_sep', pend_intro, pend_intro]) $$ [H0 H2 HO]
  · isplitl [H0 H2]
    · isplitl [H0] <;> iassumption
    iexact HO
  iapply (wait2_block J K c 0 (by revert c; decide) rfl rfl (fun _ => caAt_credit _ _) (fun _ => rfl)) $$ [He]
  · isplitr; · iexact Hr
    isplitr; · iexact Hl
    iexact He
  iintro He
  iapply (wait2_block J K c 1 (by revert c; decide) rfl rfl (fun _ => caAt_credit _ _) (fun _ => rfl)) $$ [He]
  · isplitr; · iexact Hr
    isplitr; · iexact Hl
    iexact He
  iintro He
  iapply (run_ret c)
  ispecialize Hk $$ [Hw Ho He]
  · isplitl [Hw]; · iexact Hw
    isplitl [Ho]; · iexact Ho
    iexact He
  iapply Hk

end Cert.KernelIdealProof

end
-- ==== Proof.BodyD.lean ====
/-
# The whole body

The seventeen parts in order, and the last two waits.
-/
module

public import proofs.«01_k».proof.Proof.BodyC

@[expose] public section

noncomputable section

namespace Cert.KernelIdealProof

open Cert.KernelIdeal Cert.KernelIdeal.Gen Cert.Fam

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (J : Dev nD → Inputs F) (K : Dev nD × CI → ℕ)

theorem run_seq (c : Dev nD) {α β : Type} {p : Prog (TpuEff nD τ sig (Elt F) Λ₀ .tc) α} {k : α → Prog (TpuEff nD τ sig (Elt F) Λ₀ .tc) β} {Q : β → sProp 𝕄} :
    run c p (fun a => run c (k a) Q) ⊢ run c (p >>= k) Q := Entails.of_eq (run_bind c p k Q).symm

/-- What the body starts with on device `c`, beside its input buffers: the tokens of its signals and copies, its credits, its
positions, and its buffers. -/
def before (c : Dev nD) : sProp 𝕄 :=
  iprop(stBar (F := F) c 1 ∗ (∃ f, buf (F := F) c cc0_scratch0 f) ∗ (∃ f, buf (F := F) c cc0_scratch1 f)
    ∗ (cred (tallyAt (barCell c) () 7) ∗ atPos ER (barCell c) 0 ∅ 0)
    ∗ (bigSep Finset.univ (off c (tok01 (F := F) c)) ∗ bigSep Finset.univ (off c (tok23 (F := F) c)))
    ∗ ((∃ f, rsPts (F := F) c c f) ∗ (∃ f, agPts (F := F) c c f) ∗ (∃ f, buf (F := F) c cc0_scratch4 f))
    ∗ (bigSep Finset.univ (off c (credX (F := F) 1 c)) ∗ bigSep Finset.univ (off c (credX (F := F) 3 c)))
    ∗ (bigSep Finset.univ (atP (F := F) 0 c) ∗ bigSep Finset.univ (atP (F := F) 1 c) ∗ bigSep Finset.univ (atP (F := F) 2 c) ∗ bigSep Finset.univ (atP (F := F) 3 c))
    ∗ ∃ f, buf (F := F) c cc0_stg5_0 f)

/-- What it has after the waits for the copies that arrive, beside the last waits' state. -/
def late (c : Dev nD) : sProp 𝕄 :=
  iprop(bigSep Finset.univ (done J 3 c) ∗ stOut J c 8 ∗ inBufs c (J c) ∗ stAt c (J c) 16 ∗ asRest c (agSrc J c)
    ∗ buf c cc0_scratch2 (rsAll J c) ∗ sems (F := F) 1 c ∗ semVal (barCell c) 0)

theorem at_start (c : Dev nD) (I : Inputs F) (f : FVec F S512x512 .bf16) : buf c cc0_scratch0 f ⊢ stAt c I 0 := by
  unfold stAt filled
  iintro H
  iexists f
  isplitr
  · ipureintro; exact fun i hi => absurd hi (Nat.not_lt_zero _)
  iexact H

theorem out_start (c : Dev nD) (f : FVec F S2x256x768 .f32) : buf c cc0_stg5_0 f ⊢ stOut J c 0 := by
  unfold stOut filled
  iintro H
  iexists f
  isplitr
  · ipureintro; exact fun i hi => absurd hi (Nat.not_lt_zero _)
  iexact H

set_option maxHeartbeats 1600000 in
theorem part17 (c : Dev nD) (Kt : _ → sProp 𝕄) :
    iprop(records J K ∗ levAts L lv ∗ before (F := F) c ∗ inBufs c (J c) ∗ (stE J c 7 ∗ late J c -∗ ∀ v, Kt ⟨c, v, 0#32⟩))
      ⊢ run c (k0_part17 (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8) Kt := by
  simp only [k0_part17_eq_skeleton]; unfold k0_part17_skel before
  iintro ⟨#Hr, #Hl, ⟨Hbar, ⟨%f0, Hat⟩, ⟨%f1, Hca⟩, ⟨Hcb, Hpb⟩, ⟨Ht01, Ht23⟩, ⟨⟨%f2, Hrs⟩, ⟨%f3, Hag⟩, ⟨%f4, Has⟩⟩, ⟨Hc1, Hc3⟩, ⟨Ha0, Ha1, Ha2, Ha3⟩, ⟨%f5, Hout⟩⟩, Hin, Hk⟩
  ihave Hat := (at_start c (J c) f0) $$ Hat
  ihave Hout := (out_start J c f5) $$ Hout
  ihave Hca := (Entails.of_eq (ca_split c f1)) $$ Hca
  icases Hca with ⟨Hca0, Hca1⟩
  iapply (run_seq c)
  iapply (part1 J K c)
  isplitr; · iexact Hr
  isplitl [Hbar]; · iexact Hbar
  iintro Hbar
  iapply (run_seq c)
  iapply (part2 J K c)
  isplitr; · iexact Hr
  isplitl [Hbar]; · iexact Hbar
  iintro Hbar %r2
  iapply (run_seq c)
  iapply (part3 J K c)
  isplitr; · iexact Hr
  isplitl [Hbar]; · iexact Hbar
  iintro Hbar %r3
  iapply (run_seq c)
  iapply (part4 c (J c))
  isplitl [Hin]; · iexact Hin
  iintro Hin
  iapply (run_seq c)
  iapply (part5 c (J c))
  isplitl [Hat]; · iexact Hat
  iintro Hat
  iapply (run_seq c)
  iapply (part6 c (J c))
  isplitl [Hat]; · iexact Hat
  iintro Hat
  iapply (run_seq c)
  iapply (part7 c (J c) f1)
  isplitl [Hat]; · iexact Hat
  isplitl [Hca0]; · iexact Hca0
  iintro ⟨Hat, Hca0⟩
  iapply (run_seq c)
  iapply (part8 J K c)
  isplitr; · iexact Hr
  isplitr; · iexact Hl
  isplitl [Hcb Hpb Hbar Ht01 Ht23]
  · isplitl [Hcb]; · iexact Hcb
    isplitl [Hpb]; · iexact Hpb
    isplitl [Hbar]; · iexact Hbar
    isplitl [Ht01]; · iexact Ht01
    iexact Ht23
  isplitl [Hca0]; · iexact Hca0
  isplitl [Hat]; · iexact Hat
  iintro ⟨Hs0, Hsa, Hzb, Hat⟩
  iapply (run_seq c)
  iapply (part9 c (J c))
  isplitl [Hat]; · iexact Hat
  iintro Hat
  iapply (run_seq c)
  iapply (part10 c (J c))
  isplitl [Hat]; · iexact Hat
  iintro %r10 Hat
  iapply (run_seq c)
  iapply (part11 J K c f1)
  isplitr; · iexact Hr
  isplitl [Hs0]; · iexact Hs0
  isplitl [Hat]; · iexact Hat
  isplitl [Hca1]; · iexact Hca1
  iintro ⟨Hs0, Hat, Hca⟩ %r11
  iapply (run_seq c)
  iapply (part12 J K c f2)
  isplitr; · iexact Hr
  isplitr; · iexact Hl
  isplitl [Hs0]; · iexact Hs0
  isplitl [Hca]; · iexact Hca
  isplitl [Hrs]; · iexact Hrs
  isplitl [Hc1]; · iexact Hc1
  isplitl [Ha1]; · iexact Ha1
  iintro ⟨Hs0, Hw⟩
  iapply (run_seq c)
  iapply (part13 J K c f3 f4)
  isplitr; · iexact Hr
  isplitr; · iexact Hl
  isplitl [Hw]; · iexact Hw
  isplitl [Has]; · iexact Has
  isplitl [Hag]; · iexact Hag
  isplitl [Hsa]; · iexact Hsa
  iintro ⟨Hsa, Htok, Has, Hag, Hrs, Hz1⟩ %r13
  iapply (run_seq c)
  iapply (part14 J K c)
  isplitr; · iexact Hr
  isplitr; · iexact Hl
  isplitl [Hsa]; · iexact Hsa
  isplitl [Htok]; · iexact Htok
  isplitl [Hag]; · iexact Hag
  isplitl [Hc3]; · iexact Hc3
  isplitl [Ha3]; · iexact Ha3
  isplitl [Hout]; · iexact Hout
  iintro ⟨Hs2, Hw, Hout⟩
  iapply (run_seq c)
  iapply (part15 J K c)
  isplitr; · iexact Hr
  isplitr; · iexact Hl
  isplitl [Hw]; · iexact Hw
  isplitl [Hout]; · iexact Hout
  iintro ⟨Hw, Hout⟩
  iapply (run_seq c)
  iapply (part16 J K c)
  isplitr; · iexact Hr
  isplitr; · iexact Hl
  isplitl [Hw]; · iexact Hw
  isplitl [Hout]; · iexact Hout
  isplitl [Hs0 Ha0]
  · isplitl [Hs0]; · iexact Hs0
    iexact Ha0
  isplitl [Hs2 Ha2]
  · isplitl [Hs2]; · iexact Hs2
    iexact Ha2
  iintro ⟨Hd3, Hout, He⟩ %r16
  simp -zeta only [Prog.lift, Prog.bind_op, Prog.bind_ret, Prog.pure_eq_ret]
  iapply (wait2_block J K c 2 (by revert c; decide) rfl rfl (fun _ => caAt_credit _ _) (fun _ => rfl)) $$ [He]
  · isplitr; · iexact Hr
    isplitr; · iexact Hl
    iexact He
  iintro He
  iapply (wait2_block J K c 3 (by revert c; decide) rfl rfl (fun _ => caAt_credit _ _) (fun _ => rfl)) $$ [He]
  · isplitr; · iexact Hr
    isplitr; · iexact Hl
    iexact He
  iintro He
  iapply (wait2_block J K c 4 (by revert c; decide) rfl rfl (fun _ => caAt_credit _ _) (fun _ => rfl)) $$ [He]
  · isplitr; · iexact Hr
    isplitr; · iexact Hl
    iexact He
  iintro He
  iapply (wait2_block J K c 5 (by revert c; decide) rfl rfl (fun _ => caAt_credit _ _) (fun _ => rfl)) $$ [He]
  · isplitr; · iexact Hr
    isplitr; · iexact Hl
    iexact He
  iintro He
  iapply (wait2_block J K c 6 (by revert c; decide) rfl rfl (fun _ => caAt_credit _ _) (fun _ => rfl)) $$ [He]
  · isplitr; · iexact Hr
    isplitr; · iexact Hl
    iexact He
  iintro He
  iapply (run_ret c)
  ispecialize Hk $$ [He Hd3 Hout Hin Hat Has Hrs Hz1 Hzb]
  · isplitl [He]; · iexact He
    unfold late
    isplitl [Hd3]; · iexact Hd3
    isplitl [Hout]; · iexact Hout
    isplitl [Hin]; · iexact Hin
    isplitl [Hat]; · iexact Hat
    isplitl [Has]; · iexact Has
    isplitl [Hrs]; · iexact Hrs
    isplitl [Hz1]; · iexact Hz1
    iexact Hzb
  iapply Hk

/-! ## Into and out of the body -/

/-- What the program's own semaphores and scratch buffers are held as outside the body. -/
def scratch (c : Dev nD) : sProp 𝕄 :=
  iprop((∃ f, buf (F := F) c cc0_scratch0 f) ∗ (∃ f, buf (F := F) c cc0_scratch1 f) ∗ (∃ f, buf (F := F) c cc0_scratch2 f)
    ∗ (∃ f, buf (F := F) c cc0_scratch3 f) ∗ (∃ f, buf (F := F) c cc0_scratch4 f))

/-- The tokens of the signals to the other devices, by distance. -/
def sigToks (c : Dev nD) : sProp 𝕄 := bigSep Finset.univ (off 0 fun d : Fin 8 => dutyTok ER (barCell (c + d)) 0 c)

theorem off_shift (c : Dev nD) (A : Fin 8 → sProp 𝕄) :
    (bigSep Finset.univ (off c A) : sProp 𝕄) = bigSep Finset.univ (off 0 fun d => A (c + d)) := by
  rw [bigSep_univ_equiv (Equiv.addLeft c) (off c A)]
  refine bigSep_congr fun d _ => ?_
  show off c A (c + d) = _
  unfold off
  by_cases h : d = 0
  · subst h; rw [if_pos (add_zero c), if_pos rfl]
  · rw [if_neg fun h' => h (by simpa using h'), if_neg h]

theorem split_rs (c : Dev nD) (f : FVec F S8x64x768 .bf16) :
    buf c cc0_scratch2 f ⊢ iprop((∃ f, rsPts (F := F) c c f) ∗ bigSep Finset.univ (off c fun q => iprop(∃ f, rsPts (F := F) c q f))) := by
  rw [rs_whole, off_split c]
  refine BIClass.sep_mono (by iintro H; iexists f; iexact H) (bigSep_mono fun q _ => (show _ ⊢ (_ : sProp 𝕄) from ?_))
  unfold off
  split
  · iintro H; iexact H
  · iintro H; iexists f; iexact H

theorem split_ag (c : Dev nD) (f : FVec F S512x768 .bf16) :
    buf c cc0_scratch3 f ⊢ iprop((∃ f, agPts (F := F) c c f) ∗ bigSep Finset.univ (off c fun q => iprop(∃ f, agPts (F := F) c q f))) := by
  rw [ag_whole, off_split c]
  refine BIClass.sep_mono (by iintro H; iexists f; iexact H) (bigSep_mono fun q _ => (show _ ⊢ (_ : sProp 𝕄) from ?_))
  unfold off
  split
  · iintro H; iexact H
  · iintro H; iexists f; iexact H

theorem sig_start (c : Dev nD) :
    iprop(sigToks (F := F) c ∗ bigSep Finset.univ (off c fun q => iprop(∃ f, rsPts (F := F) c q f))
        ∗ bigSep Finset.univ (off c fun q => iprop(∃ f, agPts (F := F) c q f)) ∗ owesE c (O₀ c))
      ⊢ stBar (F := F) c 1 := by
  have h : iprop(sigToks (F := F) c ∗ bigSep Finset.univ (off c fun q => iprop(∃ f, rsPts (F := F) c q f))
        ∗ bigSep Finset.univ (off c fun q => iprop(∃ f, agPts (F := F) c q f)))
      ⊢ (bigSep Finset.univ (off 0 (sendBar (F := F) c)) : sProp 𝕄) := by
    unfold sigToks
    rw [off_shift c fun q => iprop(∃ f, rsPts (F := F) c q f), off_shift c fun q => iprop(∃ f, agPts (F := F) c q f), ← bigSep_sep', ← bigSep_sep']
    refine bigSep_mono fun d _ => (show _ ⊢ (_ : sProp 𝕄) from ?_)
    unfold off
    split
    · iintro -; iempintro
    · unfold sendBar barPay
      iintro ⟨H1, H2, H3⟩
      isplitl [H1]; · iexact H1
      isplitl [H2] <;> iassumption
  unfold O₀
  rw [show rest (oBar c) 0 = rest (oBar c) 1 from (rest_step (oBar c) 0).trans (add_zero _)]
  unfold stBar
  iintro ⟨H1, H2, H3, HO⟩
  isplitr [HO]
  · ihave H := h $$ [H1 H2 H3]
    · isplitl [H1]; · iexact H1
      isplitl [H2] <;> iassumption
    ihave H := (Entails.of_eq (mix_zero (off 0 (sendBar (F := F) c)) (fun _ => iprop(emp))).symm) $$ H
    ihave H := (mix_step (off 0 (sendBar (F := F) c)) (fun _ => iprop(emp)) 0) $$ [H]
    · iexact H
    icases H with ⟨-, H⟩
    iapply H; iempintro
  iexact HO

theorem filled_done (c : Dev nD) {s : Shape} {e : EltTy} (m : Memref sig .tc .vmem s e) (bn : m.view.ty.Idx → ℕ) (G : m.view.ty.Contents (Elt F)) (n : ℕ)
    (h : ∀ i, bn i < n) : filled c m bn G n ⊢ ((m.view.loc (c : Thread nD τ)) ↦{fullShare} (G : Buf (Elt F) (m.view.loc (c : Thread nD τ))) : sProp 𝕄) := by
  unfold filled
  iintro ⟨%f, %hf, H⟩
  rw [show G = f from funext fun i => (hf i (h i)).symm]
  iexact H

theorem out_done (c : Dev nD) : stOut J c 8 ⊢ buf c cc0_stg5_0 (outAll J) :=
  filled_done c outM outPart (outAll J) 8 fun i => by
    have h0 : (i 0).val < 2 := (i 0).isLt
    have h1 : (i 1).val < 256 := (i 1).isLt
    show 4 * (i 0).val + (i 1).val / 64 < 8
    omega

theorem at_done (c : Dev nD) (I : Inputs F) : stAt c I 16 ⊢ iprop(∃ f, buf (F := F) c cc0_scratch0 f) := by
  unfold stAt filled
  iintro ⟨%f, -, H⟩
  iexists f; iexact H

/-- What the body leaves. -/
def after (c : Dev nD) : sProp 𝕄 :=
  iprop(scratch (F := F) c ∗ (sems (F := F) 0 c ∗ sems (F := F) 1 c ∗ sems (F := F) 2 c ∗ sems (F := F) 3 c ∗ semVal (barCell c) 0) ∗ owesE c 0
    ∗ inBufs c (J c) ∗ buf c cc0_stg5_0 (outAll J))

theorem finish (c : Dev nD) : iprop(stE J c 8 ∗ late J c) ⊢ after J c := by
  unfold stE late after
  rw [mix_all, bigSep_sep', done_all, done_all, done_all]
  simp only [pay_0, pay_2, pay_3]
  rw [← ca_whole, ← ag_whole]
  iintro ⟨⟨⟨⟨Hca, Hz0⟩, Htok, Hz2⟩, HO⟩, ⟨Hag, Hz3⟩, Hout, Hin, Hat, Has, Hrs, Hz1, Hzb⟩
  isplitl [Hca Hag Hrs Hat Has Htok]
  · unfold scratch
    isplitl [Hat]; · iapply (at_done c (J c)); iexact Hat
    isplitl [Hca]; · iexists _; iexact Hca
    isplitl [Hrs]; · iexists _; iexact Hrs
    isplitl [Hag]; · iexists _; iexact Hag
    iexists (agSrc J c)
    iapply (as_join c (agSrc J c))
    isplitl [Has] <;> iassumption
  isplitl [Hz0 Hz1 Hz2 Hz3 Hzb]
  · isplitl [Hz0]; · iexact Hz0
    isplitl [Hz1]; · iexact Hz1
    isplitl [Hz2]; · iexact Hz2
    isplitl [Hz3] <;> iassumption
  isplitl [HO]; · iexact HO
  isplitl [Hin]; · iexact Hin
  iapply (out_done J c); iexact Hout

theorem body_run (c : Dev nD) (Kt : PUnit → sProp 𝕄) :
    iprop(records J K ∗ levAts L lv ∗ before (F := F) c ∗ inBufs c (J c) ∗ (after J c -∗ Kt ⟨⟩))
      ⊢ run c (cc0_body (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8) Kt := by
  simp only [cc0_body_eq_skeleton]; unfold cc0_body_skel
  iintro ⟨#Hr, #Hl, Hb, Hin, Hk⟩
  iapply (run_seq c)
  iapply (part17 J K c)
  isplitr; · iexact Hr
  isplitr; · iexact Hl
  isplitl [Hb]; · iexact Hb
  isplitl [Hin]; · iexact Hin
  iintro ⟨He, Hlate⟩ %v
  simp -zeta only [Prog.lift, Prog.bind_op, Prog.bind_ret, Prog.pure_eq_ret]
  iapply (wait2_block J K c 7 (by revert c; decide) rfl rfl (fun _ => caAt_credit _ _) (fun _ => rfl)) $$ [He]
  · isplitr; · iexact Hr
    isplitr; · iexact Hl
    iexact He
  iintro He
  iapply (run_ret c)
  iapply Hk
  iapply (finish J c)
  isplitl [He]; · iexact He
  iexact Hlate

end Cert.KernelIdealProof

end
-- ==== Proof.Launched.lean ====
/-
# The launch

Each device's arguments as the launch finds them, what every device is dealt before its body runs, and the run of the
whole program: it terminates with the result array at the computed contents and every semaphore at zero.
-/
module

public import proofs.«01_k».proof.Proof.BodyD
public import proofs.«01_k».proof.Proof.Gen.KernelIdeal.Launch
public import proofs.«01_k».proof.Proof.Gen.KernelIdeal.Points

@[expose] public section

noncomputable section

namespace Cert.KernelIdealProof

open Cert.KernelIdeal Cert.KernelIdeal.Gen Cert.Fam

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Device `c`'s operands as staged. -/
def inp (c : Dev nD) : Inputs F where
  x := (win0_0.blk (0 : Fin 1)).view.read (Elt F) (m ((c : Thread nD τ).loc main_arg0))
  wq := (win0_1.blk (0 : Fin 1)).view.read (Elt F) (m ((c : Thread nD τ).loc main_arg1))
  wo := (win0_2.blk (0 : Fin 1)).view.read (Elt F) (m ((c : Thread nD τ).loc main_arg4))
  wk := (win0_3.blk (0 : Fin 1)).view.read (Elt F) (m ((c : Thread nD τ).loc main_arg2))
  wv := (win0_4.blk (0 : Fin 1)).view.read (Elt F) (m ((c : Thread nD τ).loc main_arg3))

/-! ## What a device holds around its body -/

/-- The tokens a device pays with. -/
def payToks (c : Dev nD) : sProp 𝕄 :=
  iprop(sigToks (F := F) c ∗ bigSep Finset.univ (off c (tok01 (F := F) c)) ∗ bigSep Finset.univ (off c (tok23 (F := F) c)))

/-- Its positions. -/
def poss (c : Dev nD) : sProp 𝕄 :=
  iprop(atPos ER (barCell c) 0 ∅ 0 ∗ bigSep Finset.univ (atP (F := F) 0 c) ∗ bigSep Finset.univ (atP (F := F) 1 c)
    ∗ bigSep Finset.univ (atP (F := F) 2 c) ∗ bigSep Finset.univ (atP (F := F) 3 c))

/-- Its credits. -/
def creds (c : Dev nD) : sProp 𝕄 :=
  iprop(cred (tallyAt (barCell c) () 7) ∗ bigSep Finset.univ (off c (credX (F := F) 1 c)) ∗ bigSep Finset.univ (off c (credX (F := F) 3 c)))

def G' (c : Dev nD) : sProp 𝕄 := iprop(∃ K, records (inp m) K ∗ poss (F := F) c ∗ payToks (F := F) c)

def start (c : Dev nD) : sProp 𝕄 := iprop(G' m c ∗ creds (F := F) c ∗ levAts L lv)

def Φ₀ (c : Dev nD) : sProp 𝕄 := iprop(start m c ∗ scratch (F := F) c)
def Φ₁ (c : Dev nD) : sProp 𝕄 :=
  iprop(scratch (F := F) c ∗ (sems (F := F) 0 c ∗ sems (F := F) 1 c ∗ sems (F := F) 2 c ∗ sems (F := F) 3 c ∗ semVal (barCell c) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m c).x
    | ⟨1, _⟩ => (inp m c).wq
    | ⟨2, _⟩ => (inp m c).wo
    | ⟨3, _⟩ => (inp m c).wk
    | ⟨4, _⟩ => (inp m c).wv
    | ⟨5, _⟩ => outAll (inp m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_of (c : Dev nD) (b : Ref sig .tc) (X : b.ty.Contents (Elt F)) : buf c b X ⊢ stg c b X := by
  iintro H
  iexists X
  isplitr; · ipureintro; rfl
  iexact H

def bodyPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt () t₀.succ
    ∗ stg c cc0_stg0_0 (inp m c).x ∗ stg c cc0_stg1_0 (inp m c).wq ∗ stg c cc0_stg2_0 (inp m c).wo ∗ stg c cc0_stg3_0 (inp m c).wk
    ∗ stg c cc0_stg4_0 (inp m c).wv ∗ stg c cc0_stg5_0 (outAll (inp m)))

theorem before_0 (c : Dev nD) (d) : (dats m ρ 0 c).before (0 : Fin 6) t₀ d = (inp m c).x := by unfold Dat.before; rw [if_pos (fetch0_0 t₀)]; rfl
theorem before_1 (c : Dev nD) (d) : (dats m ρ 0 c).before (1 : Fin 6) t₀ d = (inp m c).wq := by unfold Dat.before; rw [if_pos (fetch0_1 t₀)]; rfl
theorem before_2 (c : Dev nD) (d) : (dats m ρ 0 c).before (2 : Fin 6) t₀ d = (inp m c).wo := by unfold Dat.before; rw [if_pos (fetch0_2 t₀)]; rfl
theorem before_3 (c : Dev nD) (d) : (dats m ρ 0 c).before (3 : Fin 6) t₀ d = (inp m c).wk := by unfold Dat.before; rw [if_pos (fetch0_3 t₀)]; rfl
theorem before_4 (c : Dev nD) (d) : (dats m ρ 0 c).before (4 : Fin 6) t₀ d = (inp m c).wv := by unfold Dat.before; rw [if_pos (fetch0_4 t₀)]; rfl

theorem to_before (c : Dev nD) :
    iprop(poss (F := F) c ∗ payToks (F := F) c ∗ creds (F := F) c ∗ scratch (F := F) c ∗ owesE c (O₀ c) ∗ ∃ f, buf (F := F) c cc0_stg5_0 f) ⊢ before (F := F) c := by
  unfold poss payToks creds scratch before
  iintro ⟨⟨Hpb, Ha⟩, ⟨Hsig, Ht⟩, ⟨Hcb, Hc⟩, ⟨H0, H1, ⟨%f2, H2⟩, ⟨%f3, H3⟩, H4⟩, HO, Hout⟩
  ihave H2 := (split_rs c f2) $$ H2
  icases H2 with ⟨H2, H2'⟩
  ihave H3 := (split_ag c f3) $$ H3
  icases H3 with ⟨H3, H3'⟩
  isplitl [Hsig H2' H3' HO]
  · iapply (sig_start c)
    isplitl [Hsig]; · iexact Hsig
    isplitl [H2']; · iexact H2'
    isplitl [H3'] <;> iassumption
  isplitl [H0]; · iexact H0
  isplitl [H1]; · iexact H1
  isplitl [Hcb Hpb]; · isplitl [Hcb] <;> iassumption
  isplitl [Ht]; · iexact Ht
  isplitl [H2 H3 H4]
  · isplitl [H2]; · iexact H2
    isplitl [H3] <;> iassumption
  isplitl [Hc]; · iexact Hc
  isplitl [Ha]; · iexact Ha
  iexact Hout

theorem to_after (c : Dev nD) : after (inp m) c ⊢ bodyPost m ρ c := by
  unfold after bodyPost Φ₁ inBufs Dat.owesAt Pipeline.owesWithin owesE
  rw [show (dats m ρ 0 c).owed t₀.succ = 0 from rfl]
  iintro ⟨Hs, Hz, ⟨%W, HO⟩, ⟨H0, H1, H2, H3, H4⟩, H5⟩
  isplitl [Hs Hz]; · isplitl [Hs] <;> iassumption
  isplitl [HO]
  · iexists W
    isplitr; · ipureintro; exact fun _ _ => Or.inl trivial
    iexact HO
  isplitl [H0]; · iapply (stg_of c cc0_stg0_0 (inp m c).x); iexact H0
  isplitl [H1]; · iapply (stg_of c cc0_stg1_0 (inp m c).wq); iexact H1
  isplitl [H2]; · iapply (stg_of c cc0_stg2_0 (inp m c).wo); iexact H2
  isplitl [H3]; · iapply (stg_of c cc0_stg3_0 (inp m c).wk); iexact H3
  isplitl [H4]; · iapply (stg_of c cc0_stg4_0 (inp m c).wv); iexact H4
  iapply (stg_of c cc0_stg5_0 (outAll (inp m))); iexact H5

theorem sound_body (c : Dev nD) :
    bodyPre m ρ c ⊢ run c (cc0_body (F := F) xM (Memref.isWhole_whole _) wqM (Memref.isWhole_whole _) woM (Memref.isWhole_whole _) wkM (Memref.isWhole_whole _) wvM (Memref.isWhole_whole _)
      outM (Memref.isWhole_whole _) atM (Memref.isWhole_whole _) caM (Memref.isWhole_whole _) rsM (Memref.isWhole_whole _) agM (Memref.isWhole_whole _)
      asM (Memref.isWhole_whole _) cc0_scratch5 cc0_scratch6 cc0_scratch7 cc0_scratch8) (fun _ => bodyPost m ρ c) := by
  unfold bodyPre Φ₀ start G' Dat.owesAt Pipeline.owesWithin
  rw [show (dats m ρ 0 c).owed t₀.castSucc = O₀ c from rfl]
  iintro ⟨⟨⟨⟨%K, #Hr, Hp, Ht⟩, Hc, #Hl⟩, Hs⟩, ⟨%W, %hW, HO⟩, ⟨%d0, %g0, %h0, H0⟩, ⟨%d1, %g1, %h1, H1⟩, ⟨%d2, %g2, %h2, H2⟩, ⟨%d3, %g3, %h3, H3⟩,
    ⟨%d4, %g4, %h4, H4⟩, ⟨%d5, %g5, %h5, H5⟩⟩
  have e0 := h0.trans (before_0 m ρ c d0); subst e0
  have e1 := h1.trans (before_1 m ρ c d1); subst e1
  have e2 := h2.trans (before_2 m ρ c d2); subst e2
  have e3 := h3.trans (before_3 m ρ c d3); subst e3
  have e4 := h4.trans (before_4 m ρ c d4); subst e4
  iapply (body_run (inp m) K c)
  isplitr; · iexact Hr
  isplitr; · iexact Hl
  isplitl [Hp Ht Hc Hs HO H5]
  · iapply (to_before c)
    isplitl [Hp]; · iexact Hp
    isplitl [Ht]; · iexact Ht
    isplitl [Hc]; · iexact Hc
    isplitl [Hs]; · iexact Hs
    isplitl [HO]; · unfold owesE; iexists W; iexact HO
    iexists g5; iexact H5
  isplitl [H0 H1 H2 H3 H4]
  · unfold inBufs
    isplitl [H0]; · iexact H0
    isplitl [H1]; · iexact H1
    isplitl [H2]; · iexact H2
    isplitl [H3] <;> iassumption
  iintro H
  iapply (to_after m ρ c); iexact H

set_option maxRecDepth 4000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

end Cert.KernelIdealProof

end
-- ==== Proof.Run.lean ====
/-
# The run of the program

What the launch deals every device, and the run: it terminates with every semaphore at zero.
-/
module

public import proofs.«01_k».proof.Proof.Launched
public import Idealize.ShloMosaic.Lib.Pipeline.CollectiveSegs

@[expose] public section

noncomputable section

namespace Cert.KernelIdealProof

open Cert.KernelIdeal Cert.KernelIdeal.Gen Cert.Fam

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-- The protocol's DMA semaphores. -/
abbrev osem (kq : Fin 4 × Fin 8) : SemLoc sig := .dma (dsem kq.1 kq.2)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective kcell := by
  rintro ⟨c, k⟩ ⟨c', k'⟩ h
  have h1 : c = c' := by
    have := congrArg (fun g : GSem nD τ sig => g.1.1) h
    rcases k with _ | ⟨k, q⟩ <;> rcases k' with _ | ⟨k', q'⟩ <;> exact this
  subst h1
  have h2 := congrArg Prod.snd h
  rcases k with _ | ⟨k, q⟩ <;> rcases k' with _ | ⟨k', q'⟩
  · rfl
  · exact absurd h2 (fun h => by cases h)
  · exact absurd h2 (fun h => by cases h)
  · have h3 : dsem k q = dsem k' q' := by injection h2
    obtain ⟨rfl, rfl⟩ := dsem_inj h3
    rfl

def allCells : Finset (GSem nD τ sig) := Finset.univ.map ⟨kcell, kcell_injective⟩

/-- A token for every duty name of every cell; those that name no duty are dropped. -/
abbrev tokOf (x : Dev nD × CI × Fin 8) : GSem nD τ sig × ℕ × Fin 8 := (kcell (x.1, x.2.1), 0, x.2.2)
theorem tokOf_injective : Function.Injective tokOf := by
  rintro ⟨c, k, d⟩ ⟨c', k', d'⟩ h
  have h1 := kcell_injective (congrArg Prod.fst h)
  have h2 : d = d' := congrArg (fun x : GSem nD τ sig × ℕ × Fin 8 => x.2.2) h
  cases h1; cases h2; rfl
def allToks : Finset (GSem nD τ sig × ℕ × Fin 8) := Finset.univ.map ⟨tokOf, tokOf_injective⟩

def u₀ : UU := (initOf (Pipeline.cells cfgs cellOf_inj) (Pipeline.launchToks cfgs cellOf_inj), initOf allCells allToks)

def toks (c : Dev nD) : sProp 𝕄 := bigSep Finset.univ fun k : CI => bigSep Finset.univ fun d : Fin 8 => dutyTok ER (kcell (c, k)) 0 d

/-- What the launch element deals device `c`. -/
def G (c : Dev nD) : sProp 𝕄 :=
  iprop((bigSep Finset.univ fun k : CI => roundState ER (sched (inp m)) (kcell (c, k)) 0)
    ∗ (bigSep Finset.univ fun k : CI => iprop(atPos ER (kcell (c, k)) 0 ∅ 0 ∗ reached ER (kcell (c, k)) 0)) ∗ toks (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod]; rfl
  iintro HX
  imod (Rounds.fund ER (sched (inp m)) allCells allToks) $$ HX with ⟨Hst, Hr, Hat, Htok⟩
  imodintro
  ihave Hst' := (Entails.of_eq (hX fun g => roundState ER (sched (inp m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A family over a device's cells: the barrier's and the four rows'. -/
theorem bigSep_ci (Φ : CI → sProp 𝕄) : bigSep Finset.univ Φ = iprop(Φ none
    ∗ bigSep Finset.univ (fun q : Fin 8 => Φ (some (0, q))) ∗ bigSep Finset.univ (fun q : Fin 8 => Φ (some (1, q)))
    ∗ bigSep Finset.univ (fun q : Fin 8 => Φ (some (2, q))) ∗ bigSep Finset.univ (fun q : Fin 8 => Φ (some (3, q)))) := by
  rw [show (Finset.univ : Finset CI) = insert none (Finset.univ.map Function.Embedding.some) from by
      ext x; cases x <;> simp, bigSep_insert (by simp), bigSep_map, bigSep_univ_prod, bigSep_fin4]
  rfl

theorem ownSems0_eq (c : Dev nD) : (Pipeline.ownSems0 (Ix := Unit) (Name := ℕ) (U := UU) (Lvl := ℕ) (Val := Elt F) (τ := τ) osem c : sProp 𝕄)
    = iprop(sems (F := F) 0 c ∗ sems (F := F) 1 c ∗ sems (F := F) 2 c ∗ sems (F := F) 3 c) := by
  unfold Pipeline.ownSems0 sems
  rw [bigSep_univ_prod, bigSep_fin4]

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_ci]
  iintro ⟨HX, HB⟩
  isplitl [HB]; · iexact HB
  iexact HX

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (sched (inp m)) κ (kcell (c, k))))
          ∗ (bigSep Finset.univ fun k : CI => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (sched (inp m)) (kcell (c, k)) 0)
      ⊢ (|={Set.univ}=> bigSep Finset.univ fun k : CI => iprop(∃ κ : ℕ, cellInv ER (sched (inp m)) κ (kcell (c, k))) : sProp 𝕄) from by
        rw [← bigSep_sep']
        exact (bigSep_mono fun k _ => (Rounds.body_intro ER (sched (inp m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens, dealt to the devices that pay with them -/

theorem bigSep_swap {ι κ : Type} [Fintype ι] [Fintype κ] [DecidableEq ι] [DecidableEq κ] (Φ : ι → κ → sProp 𝕄) :
    bigSep Finset.univ (fun a => bigSep Finset.univ fun b => Φ a b) = bigSep Finset.univ fun b => bigSep Finset.univ fun a => Φ a b := by
  rw [← bigSep_univ_prod (fun ab : ι × κ => Φ ab.1 ab.2), bigSep_univ_equiv (Equiv.prodComm κ ι), bigSep_univ_prod]
  rfl

theorem to_off (c : Dev nD) (A : Fin 8 → sProp 𝕄) : bigSep Finset.univ A ⊢ bigSep Finset.univ (off c A) :=
  bigSep_mono fun t _ => show A t ⊢ off c A t from by
    by_cases h : t = c
    · subst h; rw [off_self]; iintro -; iempintro
    · rw [off_ne h]

/-- The barrier token of every device, and a token for each entry of each row. -/
def toks' (c : Dev nD) : sProp 𝕄 :=
  iprop(bigSep Finset.univ (fun d : Fin 8 => dutyTok ER (barCell c) 0 d)
    ∗ bigSep Finset.univ (fun q : Fin 8 => dutyTok ER (xCell 0 q c) 0 0) ∗ bigSep Finset.univ (fun q : Fin 8 => dutyTok ER (xCell 1 q c) 0 0)
    ∗ bigSep Finset.univ (fun q : Fin 8 => dutyTok ER (xCell 2 q c) 0 0) ∗ bigSep Finset.univ (fun q : Fin 8 => dutyTok ER (xCell 3 q c) 0 0))

theorem row_toks (k : Fin 4) (c : Dev nD) :
    bigSep Finset.univ (fun q : Fin 8 => bigSep Finset.univ fun d : Fin 8 => dutyTok ER (kcell (c, some (k, q))) 0 d)
      ⊢ (bigSep Finset.univ (fun q : Fin 8 => dutyTok ER (xCell k q c) 0 0) : sProp 𝕄) :=
  bigSep_mono fun q _ => show _ ⊢ (_ : sProp 𝕄) from bigSep_elim (Φ := fun d : Fin 8 => dutyTok ER (kcell (c, some (k, q))) 0 d) (Finset.mem_univ 0)

theorem toks_toks' (c : Dev nD) : toks (F := F) c ⊢ toks' c := by
  unfold toks toks'
  rw [bigSep_ci]
  iintro ⟨HB, H0, H1, H2, H3⟩
  isplitl [HB]; · iexact HB
  isplitl [H0]; · iapply (row_toks 0 c); iexact H0
  isplitl [H1]; · iapply (row_toks 1 c); iexact H1
  isplitl [H2]; · iapply (row_toks 2 c); iexact H2
  iapply (row_toks 3 c); iexact H3

theorem pay_of (c : Dev nD) :
    iprop(bigSep Finset.univ (fun d : Fin 8 => dutyTok ER (barCell d) 0 c)
      ∗ (bigSep Finset.univ (fun q : Fin 8 => dutyTok ER (xCell 0 q c) 0 0) ∗ bigSep Finset.univ (fun q : Fin 8 => dutyTok ER (xCell 1 c q) 0 0))
      ∗ (bigSep Finset.univ (fun q : Fin 8 => dutyTok ER (xCell 2 q c) 0 0) ∗ bigSep Finset.univ (fun q : Fin 8 => dutyTok ER (xCell 3 c q) 0 0)))
      ⊢ payToks (F := F) c := by
  unfold payToks sigToks
  rw [← bigSep_sep', ← bigSep_sep', ← off_shift c fun t => dutyTok ER (barCell t) 0 c]
  iintro ⟨HB, H1, H2⟩
  isplitl [HB]; · iapply (to_off c fun t => dutyTok ER (barCell t) 0 c); iexact HB
  isplitl [H1]; · iapply (to_off c (tok01 (F := F) c)); iexact H1
  iapply (to_off c (tok23 (F := F) c)); iexact H2

theorem around : (bigSep Finset.univ fun c : Dev nD => toks' (F := F) c) ⊢ (bigSep Finset.univ fun c : Dev nD =>
    iprop(bigSep Finset.univ (fun d : Fin 8 => dutyTok ER (barCell d) 0 c)
      ∗ (bigSep Finset.univ (fun q : Fin 8 => dutyTok ER (xCell 0 q c) 0 0) ∗ bigSep Finset.univ (fun q : Fin 8 => dutyTok ER (xCell 1 c q) 0 0))
      ∗ (bigSep Finset.univ (fun q : Fin 8 => dutyTok ER (xCell 2 q c) 0 0) ∗ bigSep Finset.univ (fun q : Fin 8 => dutyTok ER (xCell 3 c q) 0 0))) : sProp 𝕄) := by
  unfold toks'
  simp only [bigSep_sep']
  rw [bigSep_swap fun (c : Dev nD) (d : Fin 8) => (dutyTok ER (barCell c) 0 d : sProp 𝕄),
    bigSep_swap fun (c : Dev nD) (q : Fin 8) => (dutyTok ER (xCell 1 q c) 0 0 : sProp 𝕄),
    bigSep_swap fun (c : Dev nD) (q : Fin 8) => (dutyTok ER (xCell 3 q c) 0 0 : sProp 𝕄)]
  iintro ⟨HB, H0, H1, H2, H3⟩
  isplitl [HB]; · iexact HB
  isplitl [H0 H1]
  · isplitl [H0]; · iexact H0
    iexact H1
  isplitl [H2]; · iexact H2
  iexact H3

theorem toks_around : (bigSep Finset.univ fun c : Dev nD => (toks c : sProp 𝕄)) ⊢ bigSep Finset.univ fun c : Dev nD => payToks (F := F) c := by
  refine (bigSep_mono fun c _ => show _ ⊢ (_ : sProp 𝕄) from toks_toks' c).trans (around.trans (bigSep_mono fun c _ => show _ ⊢ (_ : sProp 𝕄) from pay_of c))

theorem poss_of (c : Dev nD) : bigSep Finset.univ (fun k : CI => (atPos ER (kcell (c, k)) 0 ∅ 0 : sProp 𝕄)) ⊢ poss (F := F) c := by
  rw [bigSep_ci]; unfold poss
  exact Entails.rfl

theorem ghost_intro (K : Dev nD × CI → ℕ) (c : Dev nD) : iprop(records (inp m) K ∗ (poss (F := F) c ∗ payToks (F := F) c)) ⊢ G' m c := by
  unfold G'
  iintro ⟨HR, HP, HT⟩
  iexists K
  isplitl [HR]; · iexact HR
  isplitl [HP] <;> iassumption

theorem deal_to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (sched (inp m)) κ (kcell (c, k))))
          ∗ (bigSep Finset.univ fun k : CI => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CI => iprop(∃ κ : ℕ, cellInv ER (sched (inp m)) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched (inp m)) κ (kcell ck) : sProp 𝕄))) $$ HI
  icases HK with ⟨%K, #HI⟩
  ihave Htk := (toks_around (F := F)) $$ Htok
  iapply (deal_to_each (R := records (inp m) K) fun c _ => ghost_intro m K c)
  isplitr
  · unfold records; isplitl; · iexact HI
    iexact HR
  · rw [bigSep_sep']
    isplitl [Hat]
    · iapply (show (bigSep Finset.univ fun c : Dev nD => bigSep Finset.univ fun k : CI => (atPos ER (kcell (c, k)) 0 ∅ 0 : sProp 𝕄)) ⊢ bigSep Finset.univ (poss (F := F)) from
        bigSep_mono fun c _ => show _ ⊢ (_ : sProp 𝕄) from poss_of (F := F) c)
      iexact Hat
    iexact Htk

/-- Every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- The arrivals device `c` is owed: the signals of the seven others, and a copy of each of them in rows 1 and 3. -/
def oIn (k : Fin 4) (c : Dev nD) (q : Fin 8) : CellTallies nD τ sig Unit := if q = c then 0 else tallyAt (xCell k q c) () N
def owedTo (c : Dev nD) : CellTallies nD τ sig Unit := ((∑ q, oIn 3 c q) + ∑ q, oIn 1 c q) + tallyAt (barCell c) () 7

theorem sum_rows (k : Fin 4) : ∑ c : Dev nD, ∑ t : Fin 8, oX k c t = ∑ c : Dev nD, ∑ q : Fin 8, oIn k c q := by
  rw [Finset.sum_comm]
  exact Finset.sum_congr rfl fun t _ => Finset.sum_congr rfl fun c _ => by unfold oX oIn; simp only [eq_comm (a := t)]

theorem seven (c : Dev nD) : ∑ d : Fin 8, (if d = 0 then 0 else tallyAt (barCell c) () 1) = (tallyAt (barCell c) () 7 : CellTallies nD τ sig Unit) := by
  rw [Fin.sum_univ_eight]
  simp only [Fin.reduceEq, if_true, if_false, zero_add, tallyAt_add]

theorem sum_shift {T : Type} [AddCommMonoid T] (f : Fin 8 → T) :
    ∑ c : Fin 8, ∑ d : Fin 8, (if d = 0 then 0 else f (c + d)) = ∑ c : Fin 8, ∑ d : Fin 8, if d = 0 then 0 else f c := by
  rw [Finset.sum_comm, Finset.sum_comm (f := fun c d : Fin 8 => if d = 0 then 0 else f c)]
  refine Finset.sum_congr rfl fun d _ => ?_
  exact Equiv.sum_comp (Equiv.addRight d) fun c => if d = 0 then 0 else f c

theorem sum_bar : ∑ c : Dev nD, ∑ d : Fin 8, oBar c d = ∑ c : Dev nD, (tallyAt (barCell c) () 7 : CellTallies nD τ sig Unit) :=
  (sum_shift fun c => (tallyAt (barCell c) () 1 : CellTallies nD τ sig Unit)).trans (Finset.sum_congr rfl fun c _ => seven c)

theorem sum_owed : ∑ c : Dev nD, O₀ c = ∑ c : Dev nD, owedTo c := by
  unfold O₀ owedTo
  simp only [rest_all, Finset.sum_add_distrib]
  rw [sum_rows, sum_rows, sum_bar]

theorem owedTo_zero (c : Dev nD) (g : GSem nD τ sig) (h : g.1 ≠ (c.tc : Thread nD τ)) : owedTo c g = 0 := by
  have hx (k : Fin 4) : (∑ q, oIn k c q) g = 0 := by
    rw [Finset.sum_apply]
    refine Finset.sum_eq_zero fun q _ => ?_
    unfold oIn; split
    · rfl
    · exact tallyAt_ne_cell (fun e => h (congrArg Prod.fst e : g.1 = (c.tc : Thread nD τ))) _ _
  unfold owedTo
  rw [Pi.add_apply, Pi.add_apply, hx, hx, tallyAt_ne_cell (fun e => h (congrArg Prod.fst e : g.1 = (c.tc : Thread nD τ))), add_zero, add_zero]

theorem cred_row (k : Fin 4) (c : Dev nD) : (cred (∑ q, oIn k c q) : sProp 𝕄) ⊢ bigSep Finset.univ (off c (credX (F := F) k c)) := by
  rw [Pipeline.cred_finsetSum]
  refine bigSep_mono fun q _ => show cred (oIn k c q) ⊢ off c (credX k c) q from ?_
  by_cases h : q = c
  · subst h; rw [off_self]; iintro -; iempintro
  · rw [off_ne h]; unfold oIn; rw [if_neg h]; exact Entails.rfl

theorem creds_intro (c : Dev nD) : (Pipeline.launchCred O₀ c : sProp 𝕄) ⊢ creds (F := F) c := by
  rw [Pipeline.launchCred_of_sum O₀ owedTo sum_owed (fun d g h => by by_contra hn; exact h (owedTo_zero d g hn)) c]
  unfold owedTo creds
  refine (cred_add _ _).1.trans ((sep_mono_left (cred_add _ _).1).trans ?_)
  iintro ⟨⟨H3, H1⟩, HB⟩
  isplitl [HB]; · iexact HB
  isplitl [H1]; · iapply (cred_row 1 c); iexact H1
  iapply (cred_row 3 c); iexact H3

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem scoped_eq (c : Dev nD) : (Pipeline.scopedRest (Ix := Unit) (Name := ℕ) (U := UU) (Lvl := ℕ) (Val := Elt F) cfg0.spec c : sProp 𝕄) = scratch (F := F) c := by
  rw [scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scoped_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scoped_eq, ownSems0_eq, unscopedSems0_eq]
  unfold Φ₁
  iintro ⟨Hr, H0, H1, H2, H3, HB⟩
  isplitl [HB]; · iexact HB
  isplitl [H0 H1 H2 H3]
  · isplitl [H0]; · iexact H0
    isplitl [H1]; · iexact H1
    isplitl [H2] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, on eight devices: every weakly fair run of the program ends, with each device's arrays at their
    final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealProof

end
-- ==== Proof.Final.lean ====
/-
# What every run leaves

Each device's result is the one computed contents, its arguments are as they were, and every counter is zero.
-/
module

public import proofs.«01_k».proof.Proof.Run
public import Idealize.ShloMosaic.Lib.Pipeline.ValueKit.Geometry
public import Idealize.ShloMosaic.Lib.Pipeline.ValueKit.Point

@[expose] public section

noncomputable section

namespace Cert.KernelIdealProof

open Cert.KernelIdeal Cert.KernelIdeal.Gen Cert.Fam

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-- Device `c`'s operands, by its arguments. -/
def args (c : Dev nD) : Inputs F where
  x := m ((c : Thread nD τ).loc main_arg0)
  wq := m ((c : Thread nD τ).loc main_arg1)
  wo := m ((c : Thread nD τ).loc main_arg4)
  wk := m ((c : Thread nD τ).loc main_arg2)
  wv := m ((c : Thread nD τ).loc main_arg3)

/-- The one block of each window starts at the origin. -/
theorem idx : ∀ t : Fin cfg0.N, win0_0.index t = ![0, 0, 0] ∧ win0_1.index t = ![0, 0] ∧ win0_2.index t = ![0, 0] ∧ win0_3.index t = ![0, 0] ∧ win0_4.index t = ![0, 0] :=
  (by decide +kernel : ∀ t : Fin grid0.N, _)

theorem inp_args : inp m = args m := by
  funext c
  unfold inp args
  congr 1
  · blk_ext! [idx (0 : Fin 1)]
  · blk_ext! [idx (0 : Fin 1)]
  · blk_ext! [idx (0 : Fin 1)]
  · blk_ext! [idx (0 : Fin 1)]
  · blk_ext! [idx (0 : Fin 1)]

theorem out_final (c : Dev nD) : finalA m ρ c (5 : Fin 6) = outAll (inp m) := by
  refine (dats m ρ 0 c).arrAt_eq_of_after_last (5 : Fin 6) t₀ (by decide +kernel) _ fun j => ?_
  rfl

theorem run_all : θ_run defs (onTc (τ := τ) (main (F := F))) ⟨m, fun _ => 0, ρ⟩ (fun r => (∀ c : Dev nD,
      r.2.mem ((c : Thread nD τ).loc main_v1) = outAll (args m)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨(h.1 c (5 : Fin 6)).trans ((out_final m ρ c).trans (by rw [inp_args])),
      (h.1 c (0 : Fin 6)).trans ((dats m ρ 0 c).arrAt_in (0 : Fin 6) rfl _),
      (h.1 c (1 : Fin 6)).trans ((dats m ρ 0 c).arrAt_in (1 : Fin 6) rfl _),
      (h.1 c (3 : Fin 6)).trans ((dats m ρ 0 c).arrAt_in (3 : Fin 6) rfl _),
      (h.1 c (4 : Fin 6)).trans ((dats m ρ 0 c).arrAt_in (4 : Fin 6) rfl _),
      (h.1 c (2 : Fin 6)).trans ((dats m ρ 0 c).arrAt_in (2 : Fin 6) rfl _)⟩, h.2⟩) (run_main m ρ)

end Cert.KernelIdealProof

end
-- ==== Proof.Frames.lean ====
/-
# The programs' frames

The idealized kernel's run is proved at any float values. The kernel as it runs on the chip is the same program at the bit
patterns, the named constant read as its own pattern, so its run follows from that one.
-/
module

public import proofs.«01_k».proof.Defs
public import proofs.«01_k».proof.Proof.Final
public import proofs.«01_k».proof.Proof.Gen.Kernel
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import Idealize.ShloMosaic.PureOps.BitExact

@[expose] public section

noncomputable section

namespace Cert.Proof

open Idealize.ShloMosaic Idealize.SL.Sem

/-- The named constant at the bit patterns: what its pattern denotes. -/
@[reducible] def patternNamed : Named Bits := ⟨fun _ _ φ b => Scalar.ofBits φ b⟩

/-! ## The kernel and its idealized print are one program -/

theorem body_same : @Cert.Kernel.cc0_body Bits _ _ = @Cert.KernelIdeal.cc0_body Bits _ patternNamed _ := rfl
theorem bodies_same : @Cert.Kernel.defs₀ Bits _ _ = @Cert.KernelIdeal.defs₀ Bits _ patternNamed _ := by
  unfold Cert.Kernel.defs₀ Cert.KernelIdeal.defs₀
  congr 1
  funext l a
  match l, a with
  | 0, (t, s) => rfl
  | ⟨_ + 1, h⟩, _ => exact absurd h (Nat.not_lt.2 (Nat.le_add_left _ _))
theorem defs_same : @Cert.Kernel.defs Bits _ _ = @Cert.KernelIdeal.defs Bits _ patternNamed _ := by
  unfold Cert.Kernel.defs Cert.KernelIdeal.defs
  rw [bodies_same]; rfl
theorem main_same : @Cert.Kernel.main Bits _ = @Cert.KernelIdeal.main Bits _ := rfl

/-! ## The frames -/

theorem frame_kernel : Cert.quiescent_Kernel := by
  intro m g _
  rw [defs_same, main_same]
  exact (θ_run (@Cert.KernelIdeal.defs Bits _ patternNamed _) _ _).mono (fun _ h => ⟨fun c => (h.1 c).2, h.2⟩)
    (@Cert.KernelIdealProof.run_all Bits _ patternNamed m g)

theorem frame_ideal : Cert.quiescent_KernelIdeal := fun m g _ =>
  (θ_run _ _ _).mono (fun _ h => ⟨fun c => (h.1 c).2, h.2⟩) (Cert.KernelIdealProof.run_all m g)

theorem frame_ideal_finite : Cert.quiescent_KernelIdeal_pre_finite_KernelIdeal := fun m g _ => frame_ideal m g trivial

theorem frame_reference : Cert.quiescent_ReferenceIdeal := fun m g _ =>
  (θ_run _ _ _).mono (fun r h => ⟨fun c => (h c).2, sem_eq_zero_of_no_sems (by decide) r.2⟩) (Cert.ReferenceIdeal.Value.run m g)

theorem frame_reference_finite : Cert.quiescent_ReferenceIdeal_pre_finite_ReferenceIdeal := fun m g _ => frame_reference m g trivial

theorem keeps : Cert.preserves_Kernel_KernelIdeal :=
  IdealRules.named_const.statement Cert.KernelIdeal.κ "c" .f32 0x3E38AA3B#32 (((1 / 8) * (Real.log 2)⁻¹ : ℝ) : EReal) rfl

end Cert.Proof

end
-- ==== Proof.Sums.lean ====
/-
# The kernel's result as sums

At the ideal values the kernel's result at an index is a sum over devices and over the rows of a device's output
weights of one attention value times one weight, and an attention value is a quotient of two sums over the keys.
-/
module

public import proofs.«01_k».proof.Proof.Vals
public import Idealize.ShloMosaic.Lib.Pointwise

@[expose] public section

noncomputable section

namespace Cert.KernelIdealProof

open Cert.KernelIdeal Cert.KernelIdeal.Gen
open Idealize.ShloMosaic

/-- Token `t` of batch member `b` against column `d` of a weight matrix of any width. -/
def proj {n : ℕ} (x : (⟨3, ![2, 256, 768]⟩ : Shape).Idx → EReal) (w : (⟨2, ![768, n]⟩ : Shape).Idx → EReal)
    (b : Fin 2) (t : Fin 256) (d : Fin n) : EReal :=
  ∑ k : Fin 768, x (ix3 b t k) * w (ix2 k d)

/-- The column of the head of column `m` at place `e`. -/
def inHead {n : ℕ} (m : Fin (64 * n)) (e : Fin 64) : Fin (64 * n) :=
  ⟨64 * (m.val / 64) + e.val, by have := m.isLt; have := e.isLt; omega⟩

/-- The constant the kernel scales its queries by, as a real number. -/
def scale : ℝ := 1 / 8 * (Real.log 2)⁻¹

theorem named_scale : (Named.named κ "c" 0x3E38AA3B#32 : Ideal .f32) = ((scale : ℝ) : EReal) := rfl

/-- The kernel's exponential of the score of key `s` for query `t`. -/
def kexp (I : Inputs Ideal) (b : Fin 2) (t s : Fin 256) (m : Fin 512) : EReal :=
  Ideal.exp2 (∑ e : Fin 64, proj I.x I.wq b t (inHead (n := 8) m e) * (scale : EReal) * proj I.x I.wk b s (inHead (n := 8) m e))

/-- The kernel's attention value of token `t` at column `m`. -/
def katt (I : Inputs Ideal) (b : Fin 2) (t : Fin 256) (m : Fin 512) : EReal :=
  Ideal.div (∑ s : Fin 256, proj I.x I.wv b s m * kexp I b t s m) (∑ s : Fin 256, kexp I b t s m)

theorem proj_comm {n : ℕ} (x : (⟨3, ![2, 256, 768]⟩ : Shape).Idx → EReal) (w : (⟨2, ![768, n]⟩ : Shape).Idx → EReal)
    (b b' : Fin 2) (t t' : Fin 256) (d : Fin n) (hb : b = b') (ht : t = t') :
    ∑ k : Fin 768, w (ix2 k d) * x (ix3 b t k) = proj x w b' t' d := by
  subst hb ht
  exact Finset.sum_congr rfl fun k _ => mul_comm _ _

theorem qT_apply (I : Inputs Ideal) (d : Fin 512) (b : Fin 2) (t : Fin 256) (u : Fin 512) (hu : u.val = 256 * b.val + t.val) :
    qT I (ix2 d u) = proj I.x I.wq b t d * (scale : EReal) := by
  pointwise [k0_pay3, k0_pay1, dot_S768x512_S512x768_S512x512_0_1_1_0_n_n]
  exact congrArg₂ (· * ·) (proj_comm _ _ _ _ _ _ _ (Fin.ext (by simp only [hu]; omega)) (Fin.ext (by simp only [hu]; omega))) named_scale

theorem kT_apply (I : Inputs Ideal) (d : Fin 512) (b : Fin 2) (t : Fin 256) (u : Fin 512) (hu : u.val = 256 * b.val + t.val) :
    kT I (ix2 d u) = proj I.x I.wk b t d := by
  pointwise [k0_pay4, k0_pay1, dot_S768x512_S512x768_S512x512_0_1_1_0_n_n]
  exact proj_comm _ _ _ _ _ _ _ (Fin.ext (by simp only [hu]; omega)) (Fin.ext (by simp only [hu]; omega))

theorem vT_apply (I : Inputs Ideal) (d : Fin 512) (b : Fin 2) (t : Fin 256) (u : Fin 512) (hu : u.val = 256 * b.val + t.val) :
    vT I (ix2 d u) = proj I.x I.wv b t d := by
  pointwise [k0_pay5, k0_pay1, dot_S768x512_S512x768_S512x512_0_1_1_0_n_n]
  exact proj_comm _ _ _ _ _ _ _ (Fin.ext (by simp only [hu]; omega)) (Fin.ext (by simp only [hu]; omega))

theorem pay16_apply (q k v : FVec Ideal S64x256 .bf16) (d : Fin 64) (t : Fin 256) :
    k0_pay16 q k v (constant S256x256 .f32 0x00000000#32) (ix2 d t)
      = Ideal.div (∑ s : Fin 256, v (ix2 d s) * Ideal.exp2 (∑ e : Fin 64, q (ix2 e t) * k (ix2 e s)))
          (∑ s : Fin 256, Ideal.exp2 (∑ e : Fin 64, q (ix2 e t) * k (ix2 e s))) := by
  pointwise [k0_pay16, dot_S64x256_S64x256_S256x256_0_0_1_1_n_n, dot_S64x256_S256x256_S64x256_1_1_0_0_n_n]
  rfl

theorem cut_apply (a : FVec Ideal S512x512 .bf16) (h : Fin 8) (b : Fin 2) (d : Fin 64) (t : Fin 256) (m u : Fin 512)
    (hm : m.val = 64 * h.val + d.val) (hu : u.val = 256 * b.val + t.val) : cut h b a (ix2 d t) = a (ix2 m u) := by
  pointwise
  congr 2
  · exact Fin.ext hm.symm
  · exact Fin.ext hu.symm

/-- A head's attention at an index. -/
theorem head_apply (I : Inputs Ideal) (h : Fin 8) (b : Fin 2) (d : Fin 64) (t : Fin 256) (m : Fin 512)
    (hm : m.val = 64 * h.val + d.val) : head I h b (ix2 d t) = katt I b t m := by
  have col : ∀ (s : Fin 256), ∃ u : Fin 512, u.val = 256 * b.val + s.val := fun s =>
    ⟨⟨256 * b.val + s.val, by have := b.isLt; have := s.isLt; omega⟩, rfl⟩
  have he : ∀ e : Fin 64, (inHead (n := 8) m e).val = 64 * h.val + e.val := fun e => by
    show 64 * (m.val / 64) + e.val = _
    have := d.isLt; omega
  obtain ⟨ut, hut⟩ := col t
  have hx : ∀ s : Fin 256, Ideal.exp2 (∑ e : Fin 64, cut h b (qT I) (ix2 e t) * cut h b (kT I) (ix2 e s)) = kexp I b t s m := fun s => by
    obtain ⟨us, hus⟩ := col s
    unfold kexp
    congr 1
    refine Finset.sum_congr rfl fun e _ => ?_
    rw [cut_apply _ h b e t _ ut (he e) hut, cut_apply _ h b e s _ us (he e) hus, qT_apply I _ b t ut hut, kT_apply I _ b s us hus]
  refine (pay16_apply (cut h b (qT I)) (cut h b (kT I)) (cut h b (vT I)) d t).trans ?_
  simp only [hx]
  unfold katt
  congr 1
  refine Finset.sum_congr rfl fun s _ => ?_
  obtain ⟨us, hus⟩ := col s
  rw [cut_apply _ h b d s m us hm hus, vT_apply I _ b s us hus]

theorem attnAll_at (I : Inputs Ideal) (h : Fin 8) (b : Fin 2) (d : Fin 64) (t : Fin 256) (i : S512x512.Idx)
    (h0 : (i 0).val = 64 * h.val + d.val) (h1 : (i 1).val = 256 * b.val + t.val) : attnAll I i = head I h b (ix2 d t) := by
  have hd := d.isLt; have ht := t.isLt
  rw [ix2_eq_valueIdx]
  unfold attnAll
  exact congr (congrArg₂ (fun h b => head I h b) (Fin.ext (by show (i 0).val / 64 = h.val; omega)) (Fin.ext (by show (i 1).val / 256 = b.val; omega)))
    (congrArg₂ ValueIdx.ix2 (Fin.ext (by show (i 0).val % 64 = d.val; omega)) (Fin.ext (by show (i 1).val % 256 = t.val; omega)))

theorem attnHalf_apply (I : Inputs Ideal) (b : Fin 2) (m : Fin 512) (t : Fin 256) : attnHalf I b (ix2 m t) = katt I b t m := by
  have hm := m.isLt
  have e : m.val = 64 * (m.val / 64) + m.val % 64 := by omega
  unfold attnHalf
  exact (attnAll_at I ⟨m.val / 64, by omega⟩ b ⟨m.val % 64, Nat.mod_lt _ (by decide)⟩ t _ e rfl).trans
    (head_apply I ⟨m.val / 64, by omega⟩ b ⟨m.val % 64, Nat.mod_lt _ (by decide)⟩ t m e)

theorem pay22_apply (w : Vec Ideal S512x768 .f32) (a : Vec Ideal S512x256 .bf16) (t : Fin 256) (j : Fin 768) :
    k0_pay22 (k0_pay2 w) a (ix2 t j) = ∑ m : Fin 512, a (ix2 m t) * w (ix2 m j) := by
  pointwise [k0_pay22, k0_pay2, dot_S512x256_S512x768_S256x768_0_0_1_1_n_n]

theorem castAll_at (I : Inputs Ideal) (b : Fin 2) (t : Fin 256) (j : Fin 768) (i : S512x768.Idx)
    (h0 : (i 0).val = 256 * b.val + t.val) (h1 : i 1 = j) : castAll I i = k0_pay22 (woB I) (attnHalf I b) (ix2 t j) := by
  have ht := t.isLt
  rw [ix2_eq_valueIdx]
  unfold castAll
  exact congr (congrArg (fun b => k0_pay22 (woB I) (attnHalf I b)) (Fin.ext (by show (i 0).val / 256 = b.val; omega)))
    (congrArg₂ ValueIdx.ix2 (Fin.ext (by show (i 0).val % 256 = t.val; omega)) h1)

/-- A device's partial product at an index. -/
theorem castAll_apply (I : Inputs Ideal) (b : Fin 2) (t : Fin 256) (j : Fin 768) (i : S512x768.Idx)
    (h0 : (i 0).val = 256 * b.val + t.val) (h1 : i 1 = j) :
    castAll I i = ∑ m : Fin 512, katt I b t m * I.wo (ix2 m j) := by
  rw [castAll_at I b t j i h0 h1, pay22_apply]
  exact Finset.sum_congr rfl fun m _ => by rw [attnHalf_apply]

theorem pay40_apply (A : Vec Ideal S8x64x768 .bf16) (r : Fin 64) (j : Fin 768) : k0_pay40 A (ix2 r j) = ∑ p : Fin 8, A (ix3 p r j) := by
  pointwise [k0_pay40]

theorem pay42_apply (A : Vec Ideal S64x768 .bf16) (r : Fin 64) (j : Fin 768) : k0_pay42 A (ix3 0 r j) = A (ix2 r j) := by
  pointwise [k0_pay42]

theorem outAll_at (J : Fin 8 → Inputs Ideal) (c : Fin 8) (r : Fin 64) (j : Fin 768) (i : S2x256x768.Idx)
    (h : 256 * (i 0).val + (i 1).val = 64 * c.val + r.val) (h2 : i 2 = j) : outAll J i = k0_pay42 (agSrc J c) (ix3 0 r j) := by
  have hr := r.isLt
  have h1 : (i 1).val < 256 := (i 1).isLt
  rw [ix3_eq_valueIdx]
  unfold outAll
  exact congr (congrArg (fun c => k0_pay42 (agSrc J c)) (Fin.ext (by show 4 * (i 0).val + (i 1).val / 64 = c.val; omega)))
    (congrArg₂ (fun (a : Fin 64) (b : Fin 768) => ValueIdx.ix3 (0 : Fin 1) a b) (Fin.ext (by show (i 1).val % 64 = r.val; omega)) h2)

/-- The kernel's result at an index. -/
theorem outAll_apply (J : Fin 8 → Inputs Ideal) (b : Fin 2) (t : Fin 256) (j : Fin 768) :
    outAll J (ix3 b t j) = ∑ p : Fin 8, ∑ m : Fin 512, katt (J p) b t m * (J p).wo (ix2 m j) := by
  have hb := b.isLt; have ht := t.isLt
  have e : 256 * b.val + t.val = 64 * (4 * b.val + t.val / 64) + t.val % 64 := by omega
  refine (outAll_at J ⟨4 * b.val + t.val / 64, by omega⟩ ⟨t.val % 64, Nat.mod_lt _ (by decide)⟩ j _ e rfl).trans ?_
  refine (pay42_apply _ _ _).trans ((pay40_apply _ _ _).trans (Finset.sum_congr rfl fun p _ => ?_))
  unfold rsAll
  exact castAll_apply (J p) b t j _ e.symm rfl

end Cert.KernelIdealProof

end
-- ==== Proof.Soft.lean ====
/-
# Shifting and rescaling a softmax

A softmax over real scores does not change when a real number is subtracted from every score, whatever the values it
weights, and a power of two with the kernel's scaling is an exponential.
-/
module

public import proofs.«01_k».proof.Proof.Sums

@[expose] public section

noncomputable section

namespace Cert.Soft

open Idealize.ShloMosaic
open Cert.KernelIdealProof (scale)

variable {n : ℕ}

/-- A real factor that is not negative comes out of a sum of any extended reals. -/
theorem sum_mul_real {ι : Type} (s : Finset ι) (f : ι → EReal) (c : ℝ) (hc : 0 ≤ c) : ∑ i ∈ s, f i * (c : EReal) = (∑ i ∈ s, f i) * (c : EReal) := by
  classical
  induction s using Finset.induction_on with
  | empty => simp
  | insert a s ha ih =>
    rw [Finset.sum_insert ha, Finset.sum_insert ha, ih, EReal.right_distrib_of_nonneg_of_ne_top (by exact_mod_cast hc) (EReal.coe_ne_top c)]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_real {ι : Type} (s : Finset ι) (f : ι → EReal) (h : ∀ i, ∃ r : ℝ, f i = r) : ∃ r : ℝ, ∑ i ∈ s, f i = r := by
  choose g hg using h
  exact ⟨∑ i ∈ s, g i, by rw [coe_sum]; exact Finset.sum_congr rfl fun i _ => hg i⟩

theorem mul_real {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

/-- A quotient of two sums whose terms have a common positive real factor. -/
theorem div_factor (A : EReal) (L c : ℝ) (hL : 0 < L) (hc : 0 < c) : Ideal.div (A * (c : EReal)) ((L : EReal) * (c : EReal)) = Ideal.div A (L : EReal) := by
  rw [← EReal.coe_mul, Ideal.div_coe (mul_pos hL hc).ne', Ideal.div_coe hL.ne', mul_assoc, ← EReal.coe_mul]
  congr 2
  field_simp

/-- Subtracting a real number from every score of a softmax changes nothing. -/
theorem shift [NeZero n] (v : Fin n → EReal) (S : Fin n → ℝ) (m : ℝ) :
    Ideal.div (∑ s, v s * Ideal.exp ((S s : EReal) - (m : EReal))) (∑ s, Ideal.exp ((S s : EReal) - (m : EReal)))
      = Ideal.div (∑ s, v s * ((Real.exp (S s) : ℝ) : EReal)) (∑ s, ((Real.exp (S s) : ℝ) : EReal)) := by
  have he : ∀ s, Ideal.exp ((S s : EReal) - (m : EReal)) = ((Real.exp (S s) : ℝ) : EReal) * ((Real.exp (-m) : ℝ) : EReal) := fun s => by
    rw [← EReal.coe_sub, Ideal.exp_coe, ← EReal.coe_mul, ← Real.exp_add, sub_eq_add_neg]
  have hc : (0 : ℝ) < Real.exp (-m) := Real.exp_pos _
  have hL : (0 : ℝ) < ∑ s, Real.exp (S s) := Finset.sum_pos (fun s _ => Real.exp_pos _) ⟨⟨0, Nat.pos_of_ne_zero (NeZero.ne n)⟩, Finset.mem_univ _⟩
  simp only [he, ← mul_assoc]
  rw [sum_mul_real _ _ _ hc.le, sum_mul_real _ _ _ hc.le, ← coe_sum, div_factor _ _ _ hL hc]

/-- The kernel's power of two at a scaled score is the exponential of an eighth of the score. -/
theorem exp2_scaled (y : ℝ) : Ideal.exp2 ((scale * y : ℝ) : EReal) = ((Real.exp (y * (1 / 8)) : ℝ) : EReal) := by
  rw [Ideal.exp2_coe]
  congr 1
  show (2 : ℝ) ^ (scale * y) = _
  rw [Real.rpow_def_of_pos (by norm_num)]
  congr 1
  have : Real.log 2 ≠ 0 := (Real.log_pos (by norm_num)).ne'
  unfold scale
  field_simp

theorem ofBits_eighth : Ideal.ofBits .f32 0x3E000000#32 = ((1 / 8 : ℝ) : EReal) := by
  simp [Ideal.ofBits, Ideal.ieee, -EReal.coe_mul]; norm_num

end Cert.Soft

end
-- ==== Proof.RefSums.lean ====
/-
# The reference's result as sums

The reference computes one softmax over all keys, started from an accumulator of zeros and a running maximum of
minus infinity. Its result at an index is a sum over the rows of the output weights of one attention value times
one weight.
-/
module

public import proofs.«01_k».proof.Proof.Sums
public import proofs.«01_k».proof.Proof.Gen.ReferenceIdeal
public import proofs.«01_k».proof.Proof.Gen.ReferenceIdeal.Read

@[expose] public section

noncomputable section

namespace Cert.ReferenceIdealProof

open Idealize.ShloMosaic Cert.ReferenceIdeal Cert.ReferenceIdeal.Gen Cert.ReferenceIdeal.Read
open Cert.KernelIdealProof (proj inHead)

variable (x : Vec Ideal S2x256x768 .f32) (wq wk wv : Vec Ideal S768x4096 .f32) (wo : Vec Ideal S4096x768 .f32)

/-- The score of key `s` for query `t` in head `h`, before scaling. -/
def score (b : Fin 2) (h : Fin 64) (t s : Fin 256) : EReal :=
  ∑ e : Fin 64, proj x wq b t (⟨64 * h.val + e.val, by have := h.isLt; have := e.isLt; omega⟩ : Fin 4096)
    * proj x wk b s (⟨64 * h.val + e.val, by have := h.isLt; have := e.isLt; omega⟩ : Fin 4096)

/-- The maximum the reference subtracts from a query's scores. -/
def top (b : Fin 2) (h : Fin 64) (t : Fin 256) : EReal := val_main_v14 x wq wk (ix4 b h t 0)

/-- The reference's exponential of a score. -/
def rexp (b : Fin 2) (h : Fin 64) (t s : Fin 256) : EReal :=
  Ideal.exp (score x wq wk b h t s * Ideal.ofBits .f32 0x3E000000#32 - top x wq wk b h t)

/-- What a running maximum of minus infinity leaves of the accumulators. -/
def forget (b : Fin 2) (h : Fin 64) (t : Fin 256) : EReal :=
  Ideal.exp (Ideal.ofBits .f32 0xFF800000#32 - top x wq wk b h t)

/-- The reference's attention value of token `t` in head `h` at place `d`. -/
def ratt (b : Fin 2) (t : Fin 256) (h d : Fin 64) : EReal :=
  Ideal.div (0 * forget x wq wk b h t + ∑ s : Fin 256,
      proj x wv b s (⟨64 * h.val + d.val, by have := h.isLt; have := d.isLt; omega⟩ : Fin 4096) * rexp x wq wk b h t s)
    (0 * forget x wq wk b h t + ∑ s : Fin 256, rexp x wq wk b h t s)

theorem val1_apply (b : Fin 2) (t : Fin 256) (h d : Fin 64) :
    val_main_v1 x wq (ix4 b t h d) = proj x wq b t (⟨64 * h.val + d.val, by have := h.isLt; have := d.isLt; omega⟩ : Fin 4096) := by
  pointwise [val_main_v1, val_main_v0, dot_S2x256x768_S768x4096_S2x256x4096_2_0_01_1_n_n]
  exact Finset.sum_congr rfl fun k _ => congrArg (fun u => x (ix3 b t k) * wq (ix2 k u)) (Fin.ext (by show h.val * 64 + d.val = 64 * h.val + d.val; omega))

theorem val9_apply (b : Fin 2) (h : Fin 64) (t s : Fin 256) : val_main_v9 x wq wk (ix4 b h t s) = score x wq wk b h t s := by
  pointwise [val_main_v9, dot_S2x256x64x64_S2x256x64x64_S2x64x256x256_3_3_1_1_02_02]
  exact Finset.sum_congr rfl fun e _ => congrArg₂ (· * ·) (val1_apply x wq b t h e) (val1_apply x wk b s h e)

theorem val11_apply (b : Fin 2) (h : Fin 64) (t s : Fin 256) :
    val_main_v11 x wq wk (ix4 b h t s) = score x wq wk b h t s * Ideal.ofBits .f32 0x3E000000#32 := by
  pointwise [val_main_v11, val_main_v10, val_main_cst_2, val9_apply]

theorem val19_apply (b : Fin 2) (h : Fin 64) (t s : Fin 256) : val_main_v19 x wq wk (ix4 b h t s) = rexp x wq wk b h t s := by
  pointwise [val_main_v19, val_main_v18, val_main_v17, val11_apply]
  rfl

theorem val32_apply (b : Fin 2) (t : Fin 256) (h d : Fin 64) : val_main_v32 x wq wk wv (ix4 b t h d) = ratt x wq wk wv b t h d := by
  have hv : ∀ s : Fin 256, val_main_v5 x wv (ix4 b s h d) = _ := fun s => val1_apply x wv b s h d
  pointwise [val_main_v32, val_main_v31, val_main_v30, val_main_v29, val_main_v28, val_main_v27, val_main_v26, val_main_v25, val_main_v24,
    val_main_v23, val_main_v22, val_main_v21, val_main_v20, val_main_v16, val_main_v15, val_main_v6, val_main_v7, val_main_v8, val_main_cst_0,
    val_main_cst_1, val_main_cst, val_main_cst_4, dot_S2x256x64x64_S2x64x256x256_S2x64x64x256_1_3_3_2_02_01, val19_apply, hv]
  rfl

/-- The reference's result at an index. -/
theorem val34_apply (b : Fin 2) (t : Fin 256) (j : Fin 768) :
    val_main_v34 x wq wk wv wo (ix3 b t j) = ∑ u : Fin 4096,
      ratt x wq wk wv b t ⟨u.val / 64, by have := u.isLt; omega⟩ ⟨u.val % 64, Nat.mod_lt _ (by decide)⟩ * wo (ix2 u j) := by
  pointwise [val_main_v34, val_main_v33, dot_S2x256x4096_S4096x768_S2x256x768_2_0_01_1_n_n, val32_apply]

end Cert.ReferenceIdealProof

end
-- ==== Proof.RefTop.lean ====
/-
# The maximum the reference subtracts

It is a real number wherever all scores are real, since each query has keys.
-/
module

public import proofs.«01_k».proof.Proof.RefSums

@[expose] public section

noncomputable section

namespace Cert.ReferenceIdealProof

open Idealize.ShloMosaic Cert.ReferenceIdeal Cert.ReferenceIdeal.Gen Cert.ReferenceIdeal.Read

variable (x : Vec Ideal S2x256x768 .f32) (wq wk : Vec Ideal S768x4096 .f32)

/-- A maximum taken from minus infinity over real values, at least one of them, is real. -/
theorem foldl_max_real {α : Type} (f : α → EReal) (l : List α) (hf : ∀ a, ∃ r : ℝ, f a = r) (e : EReal)
    (he : l ≠ [] ∧ e = ⊥ ∨ ∃ r : ℝ, e = r) : ∃ r : ℝ, l.foldl (fun m a => max m (f a)) e = r := by
  induction l generalizing e with
  | nil => rcases he with h | h
           · exact absurd rfl h.1
           · exact h
  | cons a l ih =>
    refine ih _ (Or.inr ?_)
    obtain ⟨s, hs⟩ := hf a
    rcases he with h | ⟨r, h⟩
    · exact ⟨s, by show max e (f a) = _; rw [h.2, hs]; exact max_eq_right bot_le⟩
    · exact ⟨max r s, by show max e (f a) = _; rw [h, hs]; exact (Monotone.map_max EReal.coe_strictMono.monotone).symm⟩

theorem ofBits_neg_inf : Ideal.ofBits .f32 0xFF800000#32 = ⊥ := by
  simp [Ideal.ofBits, Ideal.ieee]

/-- A host maximum from minus infinity over real values is real wherever some element reduces to the index. -/
theorem reduce_max_real {s t u : Shape} {axes : List (Fin s.rank)} (f : EReal → EReal → EReal) (hf : ∀ a b, f a b = max a b)
    (v : s.Idx → EReal) (hv : ∀ i, ∃ r : ℝ, v i = r) (init : u.Idx → EReal) (hi : ∀ i, init i = ⊥) (h : s.ReducesTo axes t) (hu : 0 < u.numel)
    (i : s.Idx) : ∃ r : ℝ, Host.reduce f v init h hu (h.drop i) = r := by
  have e : f = max := funext fun a => funext fun b => hf a b
  subst e
  unfold Host.reduce
  refine foldl_max_real _ _ (fun n => hv _) _ (Or.inl ⟨?_, hi _⟩)
  refine List.ne_nil_of_mem (a := s.rowMajor i) (List.mem_filter.2 ⟨List.mem_finRange _, ?_⟩)
  rw [Equiv.symm_apply_apply]
  exact decide_eq_true rfl

theorem drop_keys (b : Fin 2) (h : Fin 64) (t : Fin 256) (s : Fin 256) :
    (reducesTo_S2x64x256x256_S2x64x256_d3).drop (ix4 b h t s) = ix3 b h t := by
  funext a
  apply Fin.ext
  match a with
  | ⟨0, _⟩ => exact Shape.ReducesTo.drop_apply_val_of_eq reducesTo_S2x64x256x256_S2x64x256_d3 (ix4 b h t s) (0 : Fin S2x64x256.rank) (0 : Fin S2x64x256x256.rank)
  | ⟨1, _⟩ => exact Shape.ReducesTo.drop_apply_val_of_eq reducesTo_S2x64x256x256_S2x64x256_d3 (ix4 b h t s) (1 : Fin S2x64x256.rank) (1 : Fin S2x64x256x256.rank)
  | ⟨2, _⟩ => exact Shape.ReducesTo.drop_apply_val_of_eq reducesTo_S2x64x256x256_S2x64x256_d3 (ix4 b h t s) (2 : Fin S2x64x256.rank) (2 : Fin S2x64x256x256.rank)

theorem val12_real (hs : ∀ i, ∃ r : ℝ, val_main_v11 x wq wk i = r) (b : Fin 2) (h : Fin 64) (t : Fin 256) :
    ∃ r : ℝ, val_main_v12 x wq wk (ix3 b h t) = r := by
  obtain ⟨r, hr⟩ := reduce_max_real (FloatOps.maximumf (F := Ideal) (φ := .f32)) (fun _ _ => rfl) (val_main_v11 x wq wk) hs (val_main_cst_3 (F := Ideal)) (fun i => (val_main_cst_3_apply i).trans ofBits_neg_inf)
    reducesTo_S2x64x256x256_S2x64x256_d3 h_S_ (ix4 b h t 0)
  refine ⟨r, ?_⟩
  rw [drop_keys] at hr
  unfold val_main_v12
  exact hr

theorem max_read (y : Vec Ideal S2x64x256 .f32) (b : Fin 2) (h : Fin 64) (t : Fin 256) :
    maximumf (F := Ideal) (φ := .f32) (val_main_v7 (F := Ideal)) (broadcastInDim S2x64x256x1 ![0, 1, 2] bcast_S2x64x256_S2x64x256x1_0_1_2 y) (ix4 b h t 0)
      = max (Ideal.ofBits .f32 0xFF800000#32) (y (ix3 b h t)) := by
  pointwise [val_main_v7, val_main_cst_0]

theorem top_eq (b : Fin 2) (h : Fin 64) (t : Fin 256) :
    top x wq wk b h t = max (Ideal.ofBits .f32 0xFF800000#32) (val_main_v12 x wq wk (ix3 b h t)) := by
  unfold top val_main_v14 val_main_v13
  exact max_read (val_main_v12 x wq wk) b h t

theorem top_real (hs : ∀ i, ∃ r : ℝ, val_main_v11 x wq wk i = r) (b : Fin 2) (h : Fin 64) (t : Fin 256) :
    ∃ r : ℝ, top x wq wk b h t = r := by
  obtain ⟨r, hr⟩ := val12_real x wq wk hs b h t
  refine ⟨r, ?_⟩
  rw [top_eq, hr, ofBits_neg_inf]
  exact max_eq_right bot_le

end Cert.ReferenceIdealProof

end
-- ==== Proof.Match.lean ====
/-
# The kernel's sums are the reference's

Device `p` holds columns `512 p` to `512 p + 511` of the three projections and the same rows of the output weights.
Its attention values are the reference's at those columns, and the sum over devices and their rows is the reference's
sum over all rows.
-/
module

public import proofs.«01_k».proof.Proof.Soft
public import proofs.«01_k».proof.Proof.RefTop

@[expose] public section

noncomputable section

namespace Cert.Match

open Idealize.ShloMosaic Cert.ReferenceIdeal Cert.ReferenceIdeal.Gen Cert.ReferenceIdeal.Read
open Cert.KernelIdealProof Cert.ReferenceIdealProof Cert.Soft

/-- Column `d` of device `p` among all columns. -/
def col (p : Fin 8) (d : Fin 512) : Fin 4096 := ⟨512 * p.val + d.val, by have := p.isLt; have := d.isLt; omega⟩

variable (x : Vec Ideal S2x256x768 .f32) (wq wk wv : Vec Ideal S768x4096 .f32) (wo : Vec Ideal S4096x768 .f32)

/-- A device's operands are its parts of the arrays. -/
structure Holds (p : Fin 8) (I : Inputs Ideal) : Prop where
  x : I.x = x
  wq : ∀ k d, I.wq (ix2 k d) = wq (ix2 k (col p d))
  wk : ∀ k d, I.wk (ix2 k d) = wk (ix2 k (col p d))
  wv : ∀ k d, I.wv (ix2 k d) = wv (ix2 k (col p d))
  wo : ∀ m j, I.wo (ix2 m j) = wo (ix2 (col p m) j)

/-- Every element of an array is a real number. -/
def AllReal {ι : Type} (f : ι → EReal) : Prop := ∀ i, ∃ r : ℝ, f i = r

theorem proj_real {n : ℕ} (x : (⟨3, ![2, 256, 768]⟩ : Shape).Idx → EReal) (w : (⟨2, ![768, n]⟩ : Shape).Idx → EReal) (hx : AllReal x) (hw : AllReal w)
    (b : Fin 2) (t : Fin 256) (d : Fin n) : ∃ r : ℝ, proj x w b t d = r :=
  sum_real _ _ fun _ => mul_real (hx _) (hw _)

theorem proj_part (x : (⟨3, ![2, 256, 768]⟩ : Shape).Idx → EReal) (w : (⟨2, ![768, 512]⟩ : Shape).Idx → EReal)
    (W : (⟨2, ![768, 4096]⟩ : Shape).Idx → EReal) (p : Fin 8) (h : ∀ k d, w (ix2 k d) = W (ix2 k (col p d)))
    (b : Fin 2) (t : Fin 256) (d : Fin 512) : proj x w b t d = proj x W b t (col p d) :=
  Finset.sum_congr rfl fun k _ => by rw [h]

section
variable {x wq wk wv wo} {p : Fin 8} {I : Inputs Ideal} (H : Holds x wq wk wv wo p I) (hx : AllReal x) (hq : AllReal wq) (hk : AllReal wk)
include H hx hq hk

/-- A device's attention value is the reference's. -/
theorem katt_eq (b : Fin 2) (t : Fin 256) (m : Fin 512) (h d : Fin 64) (hm : 512 * p.val + m.val = 64 * h.val + d.val) :
    katt I b t m = ratt x wq wk wv b t h d := by
  have hd := d.isLt
  choose Q hQ using fun e : Fin 64 => proj_real x wq hx hq b t (⟨64 * h.val + e.val, by have := h.isLt; have := e.isLt; omega⟩ : Fin 4096)
  choose K hK using fun (s : Fin 256) (e : Fin 64) => proj_real x wk hx hk b s (⟨64 * h.val + e.val, by have := h.isLt; have := e.isLt; omega⟩ : Fin 4096)
  have hcol : ∀ e : Fin 64, col p (inHead (n := 8) m e) = ⟨64 * h.val + e.val, by have := h.isLt; have := e.isLt; omega⟩ := fun e =>
    Fin.ext (by show 512 * p.val + (64 * (m.val / 64) + e.val) = 64 * h.val + e.val; omega)
  have hs : ∀ s, score x wq wk b h t s = ((∑ e, Q e * K s e : ℝ) : EReal) := fun s => by
    unfold score
    rw [coe_sum]
    exact Finset.sum_congr rfl fun e _ => by rw [hQ, hK, EReal.coe_mul]
  have hke : ∀ s, kexp I b t s m = ((Real.exp ((∑ e, Q e * K s e) * (1 / 8)) : ℝ) : EReal) := fun s => by
    rw [← exp2_scaled]
    unfold kexp
    congr 1
    rw [Finset.mul_sum, coe_sum]
    refine Finset.sum_congr rfl fun e _ => ?_
    rw [H.x, proj_part x I.wq wq p H.wq, proj_part x I.wk wk p H.wk, hcol, hQ, hK, ← EReal.coe_mul, ← EReal.coe_mul]
    congr 1
    ring
  obtain ⟨M, hM⟩ := top_real x wq wk (fun i => by
    obtain ⟨b, h, t, s, rfl⟩ : ∃ (b : Fin 2) (h : Fin 64) (t s : Fin 256), i = ix4 b h t s := ⟨i 0, i 1, i 2, i 3, by
      funext a; match a with | ⟨0, _⟩ => rfl | ⟨1, _⟩ => rfl | ⟨2, _⟩ => rfl | ⟨3, _⟩ => rfl⟩
    rw [val11_apply]
    exact mul_real (sum_real _ _ fun e => mul_real (proj_real x wq hx hq _ _ _) (proj_real x wk hx hk _ _ _)) ⟨1 / 8, ofBits_eighth⟩) b h t
  have hre : ∀ s, rexp x wq wk b h t s = Ideal.exp ((((∑ e, Q e * K s e) * (1 / 8) : ℝ) : EReal) - (M : EReal)) := fun s => by
    unfold rexp
    rw [hs, hM, ofBits_eighth, ← EReal.coe_mul]
  have hf : 0 * forget x wq wk b h t = 0 := by
    unfold forget
    rw [hM, ofBits_neg_inf, EReal.bot_sub, Ideal.exp_bot, mul_zero]
  unfold katt ratt
  simp only [hke, hre, hf, zero_add]
  refine Eq.trans ?_ (shift _ _ M).symm
  refine congrArg (fun A => Ideal.div A _) (Finset.sum_congr rfl fun s _ => ?_)
  rw [H.x, proj_part x I.wv wv p H.wv]
  exact congrArg (fun u => proj x wv b s u * _) (Fin.ext hm)

end

/-- The kernel's result is the reference's. -/
theorem out_eq (J : Fin 8 → Inputs Ideal) (H : ∀ p, Holds x wq wk wv wo p (J p)) (hx : AllReal x) (hq : AllReal wq) (hk : AllReal wk) :
    outAll J = val_main_v34 x wq wk wv wo := by
  funext i
  obtain ⟨b, t, j, rfl⟩ : ∃ (b : Fin 2) (t : Fin 256) (j : Fin 768), i = ix3 b t j := ⟨i 0, i 1, i 2, by
    funext a; match a with | ⟨0, _⟩ => rfl | ⟨1, _⟩ => rfl | ⟨2, _⟩ => rfl⟩
  refine (outAll_apply J b t j).trans (Eq.trans ?_ (val34_apply x wq wk wv wo b t j).symm)
  rw [← (finProdFinEquiv (m := 8) (n := 512)).sum_comp, Fintype.sum_prod_type]
  refine Finset.sum_congr rfl fun p _ => Finset.sum_congr rfl fun m _ => ?_
  have e : (finProdFinEquiv (p, m) : Fin 4096) = col p m := Fin.ext (by show m.val + 512 * p.val = _; exact Nat.add_comm _ _)
  rw [e]
  have hp := p.isLt; have hm := m.isLt
  exact congrArg₂ (· * ·) (katt_eq (H p) hx hq hk b t m _ _ (by show 512 * p.val + m.val = 64 * ((512 * p.val + m.val) / 64) + (512 * p.val + m.val) % 64; omega)) ((H p).wo m j)

end Cert.Match

end
-- ==== Proof.Algebra.lean ====
/-
# The algebraic claim

Under the precondition the tokens and the query and key weights are real, and then every device's result is the
reference's.
-/
module

public import proofs.«01_k».proof.Defs
public import proofs.«01_k».proof.Proof.Final
public import proofs.«01_k».proof.Proof.Match
public import proofs.«01_k».proof.Proof.Gen.Pre_finite_KernelIdeal
public import Idealize.ShloMosaic.Lib.ReduceAll

@[expose] public section

noncomputable section

namespace Cert.Match

open Idealize.ShloMosaic Cert.KernelIdealProof
open Idealize.SL.Sem

/-! ## The precondition -/

theorem ofBits_inf : Ideal.ofBits .f32 0x7F800000#32 = ⊤ := by
  simp [Ideal.ofBits, Ideal.ieee]

/-- An extended real whose absolute value is below infinity is real. -/
theorem real_of_abs_lt (a : EReal) (h : max a (-a) < ⊤) : ∃ r : ℝ, a = r := by
  induction a using EReal.rec with
  | bot => simp at h
  | coe r => exact ⟨r, rfl⟩
  | top => simp at h

theorem andi_split {a b : BitVec 1} (h : IntOp.andi a b = 1#1) : a = 1#1 ∧ b = 1#1 := IntOp.andi_eq_one.1 h

/-- A reduction by `and` of the comparisons of absolute values with infinity. -/
theorem real_of_all {s t u : Shape} [Subsingleton t.Idx] {axes : List (Fin s.rank)} (v : FVec Ideal s .f32) (c : FVec Ideal s .f32) (hc : ∀ i, c i = ⊤)
    (init : u.Idx → BitVec 1) (h : s.ReducesTo axes t) (hu : 0 < u.numel) (j : t.Idx)
    (e : Host.reduce IntOp.andi (cmpf .olt (Host.absf v) c) init h hu j = 1#1) : AllReal v := fun i => by
  have := Host.reduce_andi_all _ init h hu j e i
  refine real_of_abs_lt _ ?_
  have hb : BitVec.ofBool (decide (max (v i) (-(v i)) < c i)) = 1#1 := this
  rw [hc] at hb
  by_contra hn
  rw [decide_eq_false hn] at hb
  exact absurd hb (by decide)

theorem real_of_pre (x : FVec Ideal Cert.Pre_finite_KernelIdeal.S2x256x768 .f32) (wq wk wv : FVec Ideal Cert.Pre_finite_KernelIdeal.S768x512 .f32) (wo : FVec Ideal Cert.Pre_finite_KernelIdeal.S512x768 .f32)
    (h : Cert.Pre_finite_KernelIdeal.fn (F := Ideal) x wq wk wv wo = fun _ => 1#1) : AllReal x ∧ AllReal wq ∧ AllReal wk := by
  have hj := congrFun h ix0
  unfold Cert.Pre_finite_KernelIdeal.fn at hj
  obtain ⟨h12, h3⟩ := andi_split hj
  obtain ⟨h1, h2⟩ := andi_split h12
  haveI : Subsingleton Cert.Pre_finite_KernelIdeal.S_.Idx := ⟨fun a b => funext fun i => i.elim0⟩
  exact ⟨real_of_all x _ (fun _ => ofBits_inf) _ _ _ _ h1, real_of_all wq _ (fun _ => ofBits_inf) _ _ _ _ h2, real_of_all wk _ (fun _ => ofBits_inf) _ _ _ _ h3⟩

/-! ## The parts the devices hold -/

theorem part_cols (p : Fin 8) (W : (⟨2, ![768, 4096]⟩ : Shape).Idx → EReal) (k : Fin 768) (d : Fin 512) :
    Layout.block ⟨2, ![768, 512]⟩ ⟨2, ![768, 4096]⟩ 1 8 p W (by decide) (ix2 k d) = W (ix2 k (col p d)) := by
  rw [Layout.block_apply]
  refine congrArg W (funext fun a => Fin.ext ?_)
  match a with
  | ⟨0, _⟩ => rfl
  | ⟨1, _⟩ => show p.val * 512 + d.val = 512 * p.val + d.val; omega

theorem part_rows (p : Fin 8) (W : (⟨2, ![4096, 768]⟩ : Shape).Idx → EReal) (k : Fin 512) (d : Fin 768) :
    Layout.block ⟨2, ![512, 768]⟩ ⟨2, ![4096, 768]⟩ 0 8 p W (by decide) (ix2 k d) = W (ix2 (col p k) d) := by
  rw [Layout.block_apply]
  refine congrArg W (funext fun a => Fin.ext ?_)
  match a with
  | ⟨0, _⟩ => show p.val * 512 + k.val = 512 * p.val + k.val; omega
  | ⟨1, _⟩ => rfl

/-- An array all of whose parts are real is real. -/
theorem real_of_parts (W : (⟨2, ![768, 4096]⟩ : Shape).Idx → EReal)
    (h : ∀ p : Fin 8, AllReal (Layout.block ⟨2, ![768, 512]⟩ ⟨2, ![768, 4096]⟩ 1 8 p W (by decide))) : AllReal W := fun i => by
  have hi : (i 1).val < 4096 := (i 1).isLt
  obtain ⟨r, hr⟩ := h ⟨(i 1).val / 512, by omega⟩ (ix2 (i 0) ⟨(i 1).val % 512, Nat.mod_lt _ (by decide)⟩)
  refine ⟨r, Eq.trans (congrArg W (funext fun a => Fin.ext ?_)) ((part_cols _ W _ _).symm.trans hr)⟩
  match a with
  | ⟨0, _⟩ => rfl
  | ⟨1, _⟩ => show (i 1).val = 512 * ((i 1).val / 512) + (i 1).val % 512; omega

/-! ## The claim -/

theorem algebraic : Cert.algebraic_KernelIdeal_ReferenceIdeal_pre_finite_KernelIdeal := by
  intro m g m' g' hp ha
  have hr := fun c => real_of_pre _ _ _ _ _ (hp c)
  have H : ∀ p : Fin 8, Holds _ _ _ _ _ p (args m p) := fun p =>
    { x := (ha p).1
      wq := fun k d => (congrFun (ha p).2.1 (ix2 k d)).trans (part_cols p _ k d)
      wk := fun k d => (congrFun (ha p).2.2.1 (ix2 k d)).trans (part_cols p _ k d)
      wv := fun k d => (congrFun (ha p).2.2.2.1 (ix2 k d)).trans (part_cols p _ k d)
      wo := fun k d => (congrFun (ha p).2.2.2.2 (ix2 k d)).trans (part_rows p _ k d) }
  have key := out_eq _ _ _ _ _ (args m) H (by rw [← (ha 0).1]; exact (hr 0).1)
    (real_of_parts _ fun p => by rw [← (ha p).2.1]; exact (hr p).2.1)
    (real_of_parts _ fun p => by rw [← (ha p).2.2.1]; exact (hr p).2.2)
  refine ⟨Cert.ReferenceIdeal.Value.res_main_v34 m' 0, ?_, ?_⟩
  · refine (θ_run _ _ _).mono (fun r h c => ?_) (run_all m g)
    obtain ⟨h1, h2⟩ := h.1 c
    exact ⟨h1.trans (key.trans (Cert.ReferenceIdeal.Read.val_main_v34_eq m' 0).symm), h2⟩
  · exact (θ_run _ _ _).mono (fun r h => h 0) (Cert.ReferenceIdeal.Value.run m' g')

end Cert.Match

end
-- ==== Proof.lean ====
/-
# The claim

The frames of the three programs, that naming the constant keeps the kernel, and that the idealized kernel computes
what the reference computes.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_KernelIdeal
public import proofs.«01_k».proof.Proof.Gen.Pre_finite_ReferenceIdeal
public import proofs.«01_k».proof.Proof.Frames
public import proofs.«01_k».proof.Proof.Algebra

@[expose] public section

noncomputable section

namespace Cert.Proof

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_ideal, frame_ideal_finite, frame_reference, frame_reference_finite,
    keeps, Cert.Match.algebraic⟩

end Cert.Proof

end
